-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Moved (m : (ℓ : Loc Cert.Moved.nD Cert.Moved.τ Cert.Moved.sig) → Buf (Elt Bits) ℓ) : Prop :=
  True

def Pre_MovedIdeal (m : (ℓ : Loc Cert.MovedIdeal.nD Cert.MovedIdeal.τ Cert.MovedIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Moved [hMoved : Cert.Moved.Facts] : Prop :=
  ∀ (m : (ℓ : Loc Cert.Moved.nD Cert.Moved.τ Cert.Moved.sig) → Buf (Elt Bits) ℓ) (g : Dev Cert.Moved.nD → PrngReg), Pre_Moved m →
    θ_run (Cert.Moved.defs (F := Bits)) (onTc (τ := Cert.Moved.τ) (Cert.Moved.main (F := Bits))) ⟨m, fun _ => 0, g⟩ (fun r => (∀ c : Dev Cert.Moved.nD,
      r.2.mem ((c.tc : Thread Cert.Moved.nD Cert.Moved.τ).loc Cert.Moved.main_arg0) = m ((c.tc : Thread Cert.Moved.nD Cert.Moved.τ).loc Cert.Moved.main_arg0)
      ∧ r.2.mem ((c.tc : Thread Cert.Moved.nD Cert.Moved.τ).loc Cert.Moved.main_arg1) = m ((c.tc : Thread Cert.Moved.nD Cert.Moved.τ).loc Cert.Moved.main_arg1)
      ∧ r.2.mem ((c.tc : Thread Cert.Moved.nD Cert.Moved.τ).loc Cert.Moved.main_arg2) = m ((c.tc : Thread Cert.Moved.nD Cert.Moved.τ).loc Cert.Moved.main_arg2))
      ∧ r.2.sem = fun _ => 0)

def quiescent_MovedIdeal [hMovedIdeal : Cert.MovedIdeal.Facts] : Prop :=
  ∀ (m : (ℓ : Loc Cert.MovedIdeal.nD Cert.MovedIdeal.τ Cert.MovedIdeal.sig) → Buf (Elt Ideal) ℓ) (g : Dev Cert.MovedIdeal.nD → PrngReg), Pre_MovedIdeal m →
    θ_run (Cert.MovedIdeal.defs (F := Ideal)) (onTc (τ := Cert.MovedIdeal.τ) (Cert.MovedIdeal.main (F := Ideal))) ⟨m, fun _ => 0, g⟩ (fun r => (∀ c : Dev Cert.MovedIdeal.nD,
      r.2.mem ((c.tc : Thread Cert.MovedIdeal.nD Cert.MovedIdeal.τ).loc Cert.MovedIdeal.main_arg0) = m ((c.tc : Thread Cert.MovedIdeal.nD Cert.MovedIdeal.τ).loc Cert.MovedIdeal.main_arg0)
      ∧ r.2.mem ((c.tc : Thread Cert.MovedIdeal.nD Cert.MovedIdeal.τ).loc Cert.MovedIdeal.main_arg1) = m ((c.tc : Thread Cert.MovedIdeal.nD Cert.MovedIdeal.τ).loc Cert.MovedIdeal.main_arg1)
      ∧ r.2.mem ((c.tc : Thread Cert.MovedIdeal.nD Cert.MovedIdeal.τ).loc Cert.MovedIdeal.main_arg2) = m ((c.tc : Thread Cert.MovedIdeal.nD Cert.MovedIdeal.τ).loc Cert.MovedIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v16) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def bitexact_Kernel_Moved [hKernel : Cert.Kernel.Facts] [hMoved : Cert.Moved.Facts] : Prop :=
  ∀ (m : (ℓ : Loc Cert.Kernel.nD Cert.Kernel.τ Cert.Kernel.sig) → Buf (Elt Bits) ℓ) (g : Dev Cert.Kernel.nD → PrngReg)
    (m' : (ℓ : Loc Cert.Moved.nD Cert.Moved.τ Cert.Moved.sig) → Buf (Elt Bits) ℓ) (g' : Dev Cert.Moved.nD → PrngReg), Pre_Kernel m →
    (∀ c : Dev Cert.Kernel.nD,
      m' ((c.tc : Thread Cert.Moved.nD Cert.Moved.τ).loc Cert.Moved.main_arg0) = m ((c.tc : Thread Cert.Kernel.nD Cert.Kernel.τ).loc Cert.Kernel.main_arg0)
      ∧ m' ((c.tc : Thread Cert.Moved.nD Cert.Moved.τ).loc Cert.Moved.main_arg1) = m ((c.tc : Thread Cert.Kernel.nD Cert.Kernel.τ).loc Cert.Kernel.main_arg1)
      ∧ m' ((c.tc : Thread Cert.Moved.nD Cert.Moved.τ).loc Cert.Moved.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Moved.defs (F := Bits)) (onTc (τ := Cert.Moved.τ) (Cert.Moved.main (F := Bits))) ⟨m', fun _ => 0, g'⟩ (fun r => ∀ c : Dev Cert.Moved.nD,
          r.2.mem ((c.tc : Thread Cert.Moved.nD Cert.Moved.τ).loc Cert.Moved.main_v1) = v0 c
          ∧ r.2.mem ((c.tc : Thread Cert.Moved.nD Cert.Moved.τ).loc Cert.Moved.main_arg0) = m' ((c.tc : Thread Cert.Moved.nD Cert.Moved.τ).loc Cert.Moved.main_arg0)
          ∧ r.2.mem ((c.tc : Thread Cert.Moved.nD Cert.Moved.τ).loc Cert.Moved.main_arg1) = m' ((c.tc : Thread Cert.Moved.nD Cert.Moved.τ).loc Cert.Moved.main_arg1)
          ∧ r.2.mem ((c.tc : Thread Cert.Moved.nD Cert.Moved.τ).loc Cert.Moved.main_arg2) = m' ((c.tc : Thread Cert.Moved.nD Cert.Moved.τ).loc Cert.Moved.main_arg2))

def preserves_Moved_MovedIdeal : Prop :=
  IdealRules.bf16_pair.Statement Cert.MovedIdeal.S2x512 Cert.MovedIdeal.S1x512
  ∧ IdealRules.bf16_pair.Statement Cert.MovedIdeal.S16x512 Cert.MovedIdeal.S8x512

def algebraic_MovedIdeal_ReferenceIdeal [hMovedIdeal : Cert.MovedIdeal.Facts] [hReferenceIdeal : Cert.ReferenceIdeal.Facts] : Prop :=
  ∀ (m : (ℓ : Loc Cert.MovedIdeal.nD Cert.MovedIdeal.τ Cert.MovedIdeal.sig) → Buf (Elt Ideal) ℓ) (g : Dev Cert.MovedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_MovedIdeal m →
    (∀ c : Dev Cert.MovedIdeal.nD,
      m' ((c.tc : Thread Cert.ReferenceIdeal.nD Cert.ReferenceIdeal.τ).loc Cert.ReferenceIdeal.main_arg0) = m ((c.tc : Thread Cert.MovedIdeal.nD Cert.MovedIdeal.τ).loc Cert.MovedIdeal.main_arg0)
      ∧ m' ((c.tc : Thread Cert.ReferenceIdeal.nD Cert.ReferenceIdeal.τ).loc Cert.ReferenceIdeal.main_arg1) = m ((c.tc : Thread Cert.MovedIdeal.nD Cert.MovedIdeal.τ).loc Cert.MovedIdeal.main_arg1)
      ∧ m' ((c.tc : Thread Cert.ReferenceIdeal.nD Cert.ReferenceIdeal.τ).loc Cert.ReferenceIdeal.main_arg2) = m ((c.tc : Thread Cert.MovedIdeal.nD Cert.MovedIdeal.τ).loc Cert.MovedIdeal.main_arg2)) →
    ∃ (v0 : (c : Dev Cert.MovedIdeal.nD) → Buf (Elt Ideal) ((c.tc : Thread Cert.MovedIdeal.nD Cert.MovedIdeal.τ).loc Cert.MovedIdeal.main_v1)),
      θ_run (Cert.MovedIdeal.defs (F := Ideal)) (onTc (τ := Cert.MovedIdeal.τ) (Cert.MovedIdeal.main (F := Ideal))) ⟨m, fun _ => 0, g⟩ (fun r => ∀ c : Dev Cert.MovedIdeal.nD,
          r.2.mem ((c.tc : Thread Cert.MovedIdeal.nD Cert.MovedIdeal.τ).loc Cert.MovedIdeal.main_v1) = v0 c
          ∧ r.2.mem ((c.tc : Thread Cert.MovedIdeal.nD Cert.MovedIdeal.τ).loc Cert.MovedIdeal.main_arg0) = m ((c.tc : Thread Cert.MovedIdeal.nD Cert.MovedIdeal.τ).loc Cert.MovedIdeal.main_arg0)
          ∧ r.2.mem ((c.tc : Thread Cert.MovedIdeal.nD Cert.MovedIdeal.τ).loc Cert.MovedIdeal.main_arg1) = m ((c.tc : Thread Cert.MovedIdeal.nD Cert.MovedIdeal.τ).loc Cert.MovedIdeal.main_arg1)
          ∧ r.2.mem ((c.tc : Thread Cert.MovedIdeal.nD Cert.MovedIdeal.τ).loc Cert.MovedIdeal.main_arg2) = m ((c.tc : Thread Cert.MovedIdeal.nD Cert.MovedIdeal.τ).loc Cert.MovedIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hReference : Cert.Reference.Facts) (hMoved : Cert.Moved.Facts) (hMovedIdeal : Cert.MovedIdeal.Facts) (hReferenceIdeal : Cert.ReferenceIdeal.Facts),
    quiescent_Kernel (hKernel := hKernel)
    ∧ quiescent_Reference (hReference := hReference)
    ∧ quiescent_Moved (hMoved := hMoved)
    ∧ quiescent_MovedIdeal (hMovedIdeal := hMovedIdeal)
    ∧ quiescent_ReferenceIdeal (hReferenceIdeal := hReferenceIdeal)
    ∧ bitexact_Kernel_Reference (hKernel := hKernel) (hReference := hReference)
    ∧ bitexact_Kernel_Moved (hKernel := hKernel) (hMoved := hMoved)
    ∧ preserves_Moved_MovedIdeal
    ∧ algebraic_MovedIdeal_ReferenceIdeal (hMovedIdeal := hMovedIdeal) (hReferenceIdeal := hReferenceIdeal)
-- ==== Kernel.lean ====
abbrev S4096x32768 : Shape := ⟨2, ![4096, 32768]⟩
abbrev S64x32768 : Shape := ⟨2, ![64, 32768]⟩
abbrev S2x4096x32768 : Shape := ⟨3, ![2, 4096, 32768]⟩
abbrev S128x8192 : Shape := ⟨2, ![128, 8192]⟩
abbrev S64x8192 : Shape := ⟨2, ![64, 8192]⟩
abbrev S2x128x8192 : Shape := ⟨3, ![2, 128, 8192]⟩
abbrev S32x8192 : Shape := ⟨2, ![32, 8192]⟩
abbrev S1x512 : Shape := ⟨2, ![1, 512]⟩
abbrev S2x512 : Shape := ⟨2, ![2, 512]⟩
abbrev S8x512 : Shape := ⟨2, ![8, 512]⟩
abbrev S16x512 : Shape := ⟨2, ![16, 512]⟩
abbrev S32x512 : Shape := ⟨2, ![32, 512]⟩
abbrev S1x32x512 : Shape := ⟨3, ![1, 32, 512]⟩
abbrev S8192x32768 : Shape := ⟨2, ![8192, 32768]⟩

abbrev nBuf : Space → Nat
  | .hbm => 5
  | .vmem => 8
  | .smem => 0
  | _ => 0

abbrev bufTy : (tb : Table) → Fin (tcTables nBuf tb) → BufTy
  | .hbm, ⟨0, _⟩ => ⟨S4096x32768, .i8⟩
  | .hbm, ⟨1, _⟩ => ⟨S64x32768, .bf16⟩
  | .hbm, ⟨2, _⟩ => ⟨S64x32768, .bf16⟩
  | .hbm, ⟨3, _⟩ => ⟨S2x4096x32768, .bf16⟩
  | .hbm, ⟨4, _⟩ => ⟨S8192x32768, .bf16⟩
  | .local _ .vmem, ⟨0, _⟩ => ⟨S128x8192, .i8⟩
  | .local _ .vmem, ⟨1, _⟩ => ⟨S128x8192, .i8⟩
  | .local _ .vmem, ⟨2, _⟩ => ⟨S64x8192, .bf16⟩
  | .local _ .vmem, ⟨3, _⟩ => ⟨S64x8192, .bf16⟩
  | .local _ .vmem, ⟨4, _⟩ => ⟨S64x8192, .bf16⟩
  | .local _ .vmem, ⟨5, _⟩ => ⟨S64x8192, .bf16⟩
  | .local _ .vmem, ⟨6, _⟩ => ⟨S2x128x8192, .bf16⟩
  | .local _ .vmem, ⟨7, _⟩ => ⟨S2x128x8192, .bf16⟩
  | _, _ => ⟨S4096x32768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![4, 32], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (i : grid0.Coords) (k0_t1 : Fin k0_t1_loop.trips) (c0_i32_1 : BitVec 32) : Fin 2 → Nat :=
  let arg1 : BitVec 32 := BitVec.ofNat 32 (i 1).val
  let v3 : BitVec 32 := Scalar.addi c0_i32_1 arg1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi v3 c2_i32
  let c0_i32_6 : BitVec 32 := 0#32
  let v17 : BitVec 1 := Scalar.cmpi .ne v16 c0_i32_6
  let v18 : BitVec 1 := Scalar.andi v15 v17
  let v4 : BitVec 32 := Scalar.divsi v3 c2_i32
  let c1_i32_7 : BitVec 32 := 1#32
  let v19 : BitVec 32 := Scalar.subi v4 c1_i32_7
  let v20 : BitVec 32 := Scalar.select v18 v19 v4
  let v22 : Index := Scalar.indexCast v20
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v23 : Index := Scalar.indexCast v2
  ![Nat.mul 2 v22.toNat, v23.toNat]
def k0_off2 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v177 : Index := Scalar.indexCast v2
  ![0, v177.toNat]
def k0_off3 (k0_t1 : Fin k0_t1_loop.trips) : Fin 3 → Nat :=
  let c0_65 : Index := 0#32
  let c0_66 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v190 : Index := Scalar.indexCast v2
  ![0, 0, v190.toNat]
def k0_off4 (k0_t1 : Fin k0_t1_loop.trips) : Fin 3 → Nat :=
  let c1 : Index := 1#32
  let c0_67 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v198 : Index := Scalar.indexCast v2
  ![1, 0, v198.toNat]
def k0_off5 (k0_t1 : Fin k0_t1_loop.trips) : Fin 2 → Nat :=
  let c32 : Index := 32#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v202 : Index := Scalar.indexCast v2
  ![32, v202.toNat]
def k0_off6 (k0_t1 : Fin k0_t1_loop.trips) : Fin 3 → Nat :=
  let c0_71 : Index := 0#32
  let c32_72 : Index := 32#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v215 : Index := Scalar.indexCast v2
  ![0, 32, v215.toNat]
def k0_off7 (k0_t1 : Fin k0_t1_loop.trips) : Fin 3 → Nat :=
  let c1_73 : Index := 1#32
  let c32_74 : Index := 32#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v223 : Index := Scalar.indexCast v2
  ![1, 32, v223.toNat]
def k0_off8 (k0_t1 : Fin k0_t1_loop.trips) : Fin 2 → Nat :=
  let c64 : Index := 64#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v227 : Index := Scalar.indexCast v2
  ![64, v227.toNat]
def k0_off9 (k0_t1 : Fin k0_t1_loop.trips) : Fin 3 → Nat :=
  let c0_78 : Index := 0#32
  let c64_79 : Index := 64#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v240 : Index := Scalar.indexCast v2
  ![0, 64, v240.toNat]
def k0_off10 (k0_t1 : Fin k0_t1_loop.trips) : Fin 3 → Nat :=
  let c1_80 : Index := 1#32
  let c64_81 : Index := 64#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v248 : Index := Scalar.indexCast v2
  ![1, 64, v248.toNat]
def k0_off11 (k0_t1 : Fin k0_t1_loop.trips) : Fin 2 → Nat :=
  let c96 : Index := 96#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v252 : Index := Scalar.indexCast v2
  ![96, v252.toNat]
def k0_off12 (k0_t1 : Fin k0_t1_loop.trips) : Fin 3 → Nat :=
  let c0_85 : Index := 0#32
  let c96_86 : Index := 96#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v265 : Index := Scalar.indexCast v2
  ![0, 96, v265.toNat]
def k0_off13 (k0_t1 : Fin k0_t1_loop.trips) : Fin 3 → Nat :=
  let c1_87 : Index := 1#32
  let c96_88 : Index := 96#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v273 : Index := Scalar.indexCast v2
  ![1, 96, v273.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference.lean ====
abbrev S4096x32768 : Shape := ⟨2, ![4096, 32768]⟩
abbrev S64x32768 : Shape := ⟨2, ![64, 32768]⟩
abbrev S2 : Shape := ⟨1, ![2]⟩
abbrev S2x1x1x1 : Shape := ⟨4, ![2, 1, 1, 1]⟩
abbrev S1x32x128x32768 : Shape := ⟨4, ![1, 32, 128, 32768]⟩
abbrev S2x32x128x32768 : Shape := ⟨4, ![2, 32, 128, 32768]⟩
abbrev S_ : Shape := ⟨0, ![]⟩
abbrev S2x32x1x32768 : Shape := ⟨4, ![2, 32, 1, 32768]⟩
abbrev S8192x32768 : Shape := ⟨2, ![8192, 32768]⟩

abbrev nBuf : Space → Nat
  | .hbm => 22
  | .vmem => 0
  | .smem => 0
  | _ => 0

abbrev bufTy : (tb : Table) → Fin (tcTables nBuf tb) → BufTy
  | .hbm, ⟨0, _⟩ => ⟨S4096x32768, .i8⟩
  | .hbm, ⟨1, _⟩ => ⟨S64x32768, .bf16⟩
  | .hbm, ⟨2, _⟩ => ⟨S64x32768, .bf16⟩
  | .hbm, ⟨3, _⟩ => ⟨S2, .i8⟩
  | .hbm, ⟨4, _⟩ => ⟨S2x1x1x1, .i8⟩
  | .hbm, ⟨5, _⟩ => ⟨S1x32x128x32768, .i8⟩
  | .hbm, ⟨6, _⟩ => ⟨S1x32x128x32768, .i32⟩
  | .hbm, ⟨7, _⟩ => ⟨S2x1x1x1, .i32⟩
  | .hbm, ⟨8, _⟩ => ⟨S2x32x128x32768, .i32⟩
  | .hbm, ⟨9, _⟩ => ⟨S2x32x128x32768, .i32⟩
  | .hbm, ⟨10, _⟩ => ⟨S2x32x128x32768, .i32⟩
  | .hbm, ⟨11, _⟩ => ⟨S_, .i32⟩
  | .hbm, ⟨12, _⟩ => ⟨S2x32x128x32768, .i32⟩
  | .hbm, ⟨13, _⟩ => ⟨S2x32x128x32768, .i32⟩
  | .hbm, ⟨14, _⟩ => ⟨S2x32x128x32768, .bf16⟩
  | .hbm, ⟨15, _⟩ => ⟨S2x32x1x32768, .bf16⟩
  | .hbm, ⟨16, _⟩ => ⟨S2x32x1x32768, .bf16⟩
  | .hbm, ⟨17, _⟩ => ⟨S2x32x128x32768, .bf16⟩
  | .hbm, ⟨18, _⟩ => ⟨S2x32x128x32768, .bf16⟩
  | .hbm, ⟨19, _⟩ => ⟨S2x32x128x32768, .bf16⟩
  | .hbm, ⟨20, _⟩ => ⟨S2x32x128x32768, .bf16⟩
  | .hbm, ⟨21, _⟩ => ⟨S8192x32768, .bf16⟩
  | _, _ => ⟨S4096x32768, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Moved.lean ====
abbrev S4096x32768 : Shape := ⟨2, ![4096, 32768]⟩
abbrev S64x32768 : Shape := ⟨2, ![64, 32768]⟩
abbrev S2x4096x32768 : Shape := ⟨3, ![2, 4096, 32768]⟩
abbrev S128x8192 : Shape := ⟨2, ![128, 8192]⟩
abbrev S64x8192 : Shape := ⟨2, ![64, 8192]⟩
abbrev S2x128x8192 : Shape := ⟨3, ![2, 128, 8192]⟩
abbrev S32x8192 : Shape := ⟨2, ![32, 8192]⟩
abbrev S1x512 : Shape := ⟨2, ![1, 512]⟩
abbrev S2x512 : Shape := ⟨2, ![2, 512]⟩
abbrev S8x512 : Shape := ⟨2, ![8, 512]⟩
abbrev S16x512 : Shape := ⟨2, ![16, 512]⟩
abbrev S32x512 : Shape := ⟨2, ![32, 512]⟩
abbrev S1x32x512 : Shape := ⟨3, ![1, 32, 512]⟩
abbrev S8192x32768 : Shape := ⟨2, ![8192, 32768]⟩

abbrev nBuf : Space → Nat
  | .hbm => 5
  | .vmem => 8
  | .smem => 0
  | _ => 0

abbrev bufTy : (tb : Table) → Fin (tcTables nBuf tb) → BufTy
  | .hbm, ⟨0, _⟩ => ⟨S4096x32768, .i8⟩
  | .hbm, ⟨1, _⟩ => ⟨S64x32768, .bf16⟩
  | .hbm, ⟨2, _⟩ => ⟨S64x32768, .bf16⟩
  | .hbm, ⟨3, _⟩ => ⟨S2x4096x32768, .bf16⟩
  | .hbm, ⟨4, _⟩ => ⟨S8192x32768, .bf16⟩
  | .local _ .vmem, ⟨0, _⟩ => ⟨S128x8192, .i8⟩
  | .local _ .vmem, ⟨1, _⟩ => ⟨S128x8192, .i8⟩
  | .local _ .vmem, ⟨2, _⟩ => ⟨S64x8192, .bf16⟩
  | .local _ .vmem, ⟨3, _⟩ => ⟨S64x8192, .bf16⟩
  | .local _ .vmem, ⟨4, _⟩ => ⟨S64x8192, .bf16⟩
  | .local _ .vmem, ⟨5, _⟩ => ⟨S64x8192, .bf16⟩
  | .local _ .vmem, ⟨6, _⟩ => ⟨S2x128x8192, .bf16⟩
  | .local _ .vmem, ⟨7, _⟩ => ⟨S2x128x8192, .bf16⟩
  | _, _ => ⟨S4096x32768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![4, 32], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  v1
def k0_off1 (i : grid0.Coords) (k0_t1 : Fin k0_t1_loop.trips) (c0_i32_1 : BitVec 32) : Fin 2 → Nat :=
  let arg1 : BitVec 32 := BitVec.ofNat 32 (i 1).val
  let v3 : BitVec 32 := Scalar.addi c0_i32_1 arg1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi v3 c2_i32
  let c0_i32_6 : BitVec 32 := 0#32
  let v17 : BitVec 1 := Scalar.cmpi .ne v16 c0_i32_6
  let v18 : BitVec 1 := Scalar.andi v15 v17
  let v4 : BitVec 32 := Scalar.divsi v3 c2_i32
  let c1_i32_7 : BitVec 32 := 1#32
  let v19 : BitVec 32 := Scalar.subi v4 c1_i32_7
  let v20 : BitVec 32 := Scalar.select v18 v19 v4
  let v22 : Index := Scalar.indexCast v20
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v23 : Index := Scalar.indexCast v2
  ![Nat.mul 2 v22.toNat, v23.toNat]
def k0_off2 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v177 : Index := Scalar.indexCast v2
  ![0, v177.toNat]
def k0_off3 (k0_t1 : Fin k0_t1_loop.trips) : Fin 3 → Nat :=
  let c0_69 : Index := 0#32
  let c0_70 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v190 : Index := Scalar.indexCast v2
  ![0, 0, v190.toNat]
def k0_off4 (k0_t1 : Fin k0_t1_loop.trips) : Fin 3 → Nat :=
  let c1 : Index := 1#32
  let c0_71 : Index := 0#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v198 : Index := Scalar.indexCast v2
  ![1, 0, v198.toNat]
def k0_off5 (k0_t1 : Fin k0_t1_loop.trips) : Fin 2 → Nat :=
  let c32 : Index := 32#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v202 : Index := Scalar.indexCast v2
  ![32, v202.toNat]
def k0_off6 (k0_t1 : Fin k0_t1_loop.trips) : Fin 3 → Nat :=
  let c0_75 : Index := 0#32
  let c32_76 : Index := 32#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v215 : Index := Scalar.indexCast v2
  ![0, 32, v215.toNat]
def k0_off7 (k0_t1 : Fin k0_t1_loop.trips) : Fin 3 → Nat :=
  let c1_77 : Index := 1#32
  let c32_78 : Index := 32#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v223 : Index := Scalar.indexCast v2
  ![1, 32, v223.toNat]
def k0_off8 (k0_t1 : Fin k0_t1_loop.trips) : Fin 2 → Nat :=
  let c64 : Index := 64#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v227 : Index := Scalar.indexCast v2
  ![64, v227.toNat]
def k0_off9 (k0_t1 : Fin k0_t1_loop.trips) : Fin 3 → Nat :=
  let c0_82 : Index := 0#32
  let c64_83 : Index := 64#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v240 : Index := Scalar.indexCast v2
  ![0, 64, v240.toNat]
def k0_off10 (k0_t1 : Fin k0_t1_loop.trips) : Fin 3 → Nat :=
  let c1_84 : Index := 1#32
  let c64_85 : Index := 64#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v248 : Index := Scalar.indexCast v2
  ![1, 64, v248.toNat]
def k0_off11 (k0_t1 : Fin k0_t1_loop.trips) : Fin 2 → Nat :=
  let c96 : Index := 96#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v252 : Index := Scalar.indexCast v2
  ![96, v252.toNat]
def k0_off12 (k0_t1 : Fin k0_t1_loop.trips) : Fin 3 → Nat :=
  let c0_89 : Index := 0#32
  let c96_90 : Index := 96#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v265 : Index := Scalar.indexCast v2
  ![0, 96, v265.toNat]
def k0_off13 (k0_t1 : Fin k0_t1_loop.trips) : Fin 3 → Nat :=
  let c1_91 : Index := 1#32
  let c96_92 : Index := 96#32
  let c0_i32 : BitVec 32 := 0#32
  let c1_i32 : BitVec 32 := 1#32
  let arg6 : BitVec 32 := Scf.iv c0_i32 c1_i32 k0_t1
  let c512_i32 : BitVec 32 := 512#32
  let v1 : BitVec 32 := Scalar.muli arg6 c512_i32
  let v2 : BitVec 32 := v1
  let v273 : Index := Scalar.indexCast v2
  ![1, 96, v273.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MovedIdeal.lean ====
variable {F : FTy → Type} [FloatOps F]
-- ==== Proof.Deq.Codes.lean ====
/- The four-bit codes of a packed byte, read through 32-bit words. A kernel views four rows of bytes as one row of words,
   masks (and shifts) the words, and views the result as bytes again; read at a byte this is the byte masked (and shifted). -/
module

public import Idealize.ShloMosaic.Lib.BitcastPair
public import Idealize.ShloMosaic.Lib.ValueIdx
public import Idealize.ShloMosaic.Lib.ValueIdxCoords

@[expose] public section

namespace Cert.Deq

open Idealize.ShloMosaic Idealize.ShloMosaic.ValueIdx

/-- A 32-row slab of 512 columns, as bytes or as bf16 values. -/
abbrev Slab : Shape := ⟨2, ![32, 512]⟩
/-- The same bytes four to a word. -/
abbrev Words : Shape := ⟨2, ![8, 512]⟩

/-- The code of half `h` in a packed byte: its low four bits for half 0, its high four bits for half 1. -/
def code (h : Nat) (b : BitVec 8) : BitVec 8 := if h = 0 then b &&& 15#8 else b >>> 4

/-- Bit `k` of the mask `0x0F0F0F0F` is set exactly when `k % 8 < 4`. -/
theorem mask_bit (k : Nat) (hk : k < 32) : (252645135#32).getLsbD k = decide (k % 8 < 4) := by
  interval_cases k <;> rfl

/-- Bit `k` of the byte mask `0x0F` is set exactly when `k < 4`. -/
theorem mask_bit8 (k : Nat) (hk : k < 8) : (15#8).getLsbD k = decide (k < 4) := by
  interval_cases k <;> rfl

/-- A shift right by the literal four is the word's shift. -/
theorem shrui_four (x : BitVec 32) : IntOp.shrui .vector x 4#32 = x >>> 4 := by
  unfold IntOp.shrui; rw [if_pos (by decide)]; rfl

/-- Bit `q` of a word's row seen as bytes and back: byte row `r`, bit `q` comes from word row `(8 r + q) / 32`, and reading bit
    `k` of that word of packed bytes gives bit `k % 8` of byte row `4 · (row) + k / 8`. -/
theorem word_bit (x : Slab.Idx → BitVec 8) (h : Slab.Bitcasts 8 Words 32) (j : Words.Idx) (k : Nat) (hk : k < 32)
    (i : Slab.Idx) (h0 : (i 0).val = 4 * (j 0).val + k / 8) (h1 : (i 1).val = (j 1).val) :
    (bitcast Words 32 x h j).getLsbD k = (x i).getLsbD (k % 8) := by
  have hr : Words.row j = (j 0).val := rfl
  rw [bitcast_getLsbD x h j k hk (by decide)]
  congr 1
  · congr 1
    funext a
    apply Fin.ext
    match a with
    | ⟨0, _⟩ => rw [h.srcIdx_row _ _ _ _ rfl]; show _ = (i 0).val; omega
    | ⟨1, _⟩ => rw [h.srcIdx_other _ _ _ _ (show ¬ 1 + 2 = 2 by omega)]; exact h1.symm
  · omega

/-- The low codes: words masked by `0x0F0F0F0F` and read back as bytes are the bytes' low four bits. -/
theorem low_codes (x : Slab.Idx → BitVec 8) (h : Slab.Bitcasts 8 Words 32) (h' : Words.Bitcasts 32 Slab 8) (i : Slab.Idx) :
    bitcast Slab 8 (andi (bitcast Words 32 x h) (broadcast Words 252645135#32)) h' i = code 0 (x i) := by
  apply BitVec.eq_of_getLsbD_eq
  intro q hq
  have hi : (i 0).val < 32 := (i 0).isLt
  have hr : Slab.row i = (i 0).val := rfl
  rw [bitcast_getLsbD _ h' i q hq (by decide)]
  simp only [andi, IntOp.andi, broadcast, BitVec.getLsbD_and]
  rw [mask_bit _ (Nat.mod_lt _ (by decide)), word_bit x h _ _ (Nat.mod_lt _ (by decide)) i ?_ ?_]
  · rw [show (Slab.row i * 8 + q) % 32 % 8 = q by omega]
    simp only [code, if_true, BitVec.getLsbD_and]
    rw [mask_bit8 q hq]
  · rw [h'.srcIdx_row _ _ _ _ rfl]; omega
  · rw [h'.srcIdx_other _ _ _ _ (by decide)]; rfl

/-- The high codes: words shifted right by four, masked by `0x0F0F0F0F` and read back as bytes are the bytes' high four bits. -/
theorem high_codes (x : Slab.Idx → BitVec 8) (h : Slab.Bitcasts 8 Words 32) (h' : Words.Bitcasts 32 Slab 8) (i : Slab.Idx) :
    bitcast Slab 8 (andi (shrui (bitcast Words 32 x h) (broadcast Words 4#32)) (broadcast Words 252645135#32)) h' i
      = code 1 (x i) := by
  apply BitVec.eq_of_getLsbD_eq
  intro q hq
  have hi : (i 0).val < 32 := (i 0).isLt
  have hr : Slab.row i = (i 0).val := rfl
  rw [bitcast_getLsbD _ h' i q hq (by decide)]
  simp only [andi, IntOp.andi, shrui, broadcast, shrui_four, BitVec.getLsbD_and, BitVec.getLsbD_ushiftRight]
  rw [mask_bit _ (Nat.mod_lt _ (by decide)), show (Slab.row i * 8 + q) % 32 % 8 = q by omega]
  simp only [code, if_neg Nat.one_ne_zero, BitVec.getLsbD_ushiftRight]
  by_cases h4 : q < 4
  · rw [word_bit x h _ _ (by omega) i ?_ ?_]
    · rw [show (4 + (Slab.row i * 8 + q) % 32) % 8 = 4 + q by omega]; simp [h4]
    · rw [h'.srcIdx_row _ _ _ _ rfl]; omega
    · rw [h'.srcIdx_other _ _ _ _ (by decide)]; rfl
  · simp only [h4, decide_false, Bool.and_false]
    exact (BitVec.getLsbD_of_ge _ _ (by omega)).symm

end Cert.Deq
-- ==== Proof.Deq.Rows.lean ====
/- The broadcast of one row of scales or zeros. A kernel loads a pair of rows, chooses one of the two by the row's parity, and
   repeats it over 32 rows; these lemmas read the result at an index, with the pair held as 16-bit patterns in 32-bit words, and
   with the pair held as two rows of values. -/
module

public import proofs.«01_k».proof.Proof.Deq.Codes
public import Idealize.ShloMosaic.Lib.Bf16Pair
public import Idealize.ShloMosaic.Lib.BitcastPair.Halves
public import Idealize.ShloMosaic.Lib.Pointwise.ShapeOpsCore
public import Idealize.ShloMosaic.Lib.Pipeline.Value

@[expose] public section

namespace Cert.Deq

open Idealize.ShloMosaic
open Idealize.ShloMosaic.ValueIdx hiding ix2

/-- Two rows of 512 columns. -/
abbrev Pair : Shape := ⟨2, ![2, 512]⟩
/-- One row of 512 columns. -/
abbrev One : Shape := ⟨2, ![1, 512]⟩
/-- Sixteen rows of 512 columns. -/
abbrev Tile : Shape := ⟨2, ![16, 512]⟩

/-- Two copies of a sixteen-row tile, one above the other, read at a row: the tile at that row modulo sixteen. -/
theorem twice_apply {α : Type} (x : Tile.Idx → α) (h : Shape.Concatenates [Tile, Tile] Slab 0) (i : Slab.Idx) :
    concatenate Slab 0 [⟨Tile, x⟩, ⟨Tile, x⟩] h i = x (ValueIdx.ix2 ⟨(i 0).val % 16, Nat.mod_lt _ (by decide)⟩ (i 1)) := by
  refine concatenate_replicate_apply 0 2 x h rfl i _ rfl ?_
  intro b hb
  match b with
  | ⟨0, _⟩ => exact absurd rfl hb
  | ⟨1, _⟩ => rfl

/-- Eight copies of one row, one above the other, read at an index: the row at that column. -/
theorem eight_apply {α : Type} (x : One.Idx → α) (h : Shape.Concatenates [One, One, One, One, One, One, One, One] Words 0)
    (j : Words.Idx) :
    concatenate Words 0 [⟨One, x⟩, ⟨One, x⟩, ⟨One, x⟩, ⟨One, x⟩, ⟨One, x⟩, ⟨One, x⟩, ⟨One, x⟩, ⟨One, x⟩] h j
      = x (ValueIdx.ix2 0 (j 1)) := by
  refine concatenate_replicate_apply 0 8 x h rfl j _ ?_ ?_
  · show 0 = (j 0).val % 1; omega
  · intro b hb
    match b with
    | ⟨0, _⟩ => exact absurd rfl hb
    | ⟨1, _⟩ => rfl

/-- One row broadcast over eight rows, read at an index: the row at that column. -/
theorem spread_apply {α : Type} (x : One.Idx → α) (h : One.Broadcasts Words) (j : Words.Idx) :
    broadcastTo Words x h j = x (ValueIdx.ix2 0 (j 1)) := by
  unfold broadcastTo
  congr 1
  funext a
  match a with
  | ⟨0, _⟩ => rfl
  | ⟨1, _⟩ => rfl

/-- The word of one column of a pair of rows: row 1's pattern above row 0's. -/
theorem pair_word (x : Pair.Idx → BitVec 16) (h : Pair.Bitcasts 16 One 32) (c : Fin 512) :
    bitcast One 32 x h (ValueIdx.ix2 0 c) = x (ValueIdx.ix2 1 c) ++ x (ValueIdx.ix2 0 c) := by
  rw [bitcast_16_32]
  congr 1 <;> congr 1 <;> funext a <;> apply Fin.ext <;> match a with | ⟨0, _⟩ => rfl | ⟨1, _⟩ => rfl

/-- A shift right of a vector lane by the amount zero is no shift. -/
theorem shrui_zero (x : BitVec 32) : IntOp.shrui .vector x 0#32 = x := by
  unfold IntOp.shrui; rw [if_pos (by decide)]; exact BitVec.ushiftRight_zero x

/-- A shift right of a vector lane by sixteen is the word's shift. -/
theorem shrui_sixteen (x : BitVec 32) : IntOp.shrui .vector x 16#32 = x >>> (16#32) := by
  unfold IntOp.shrui; rw [if_pos (by decide)]

/-- A shift left of a vector lane by sixteen is the word's shift. -/
theorem shli_sixteen (x : BitVec 32) : IntOp.shli .vector x 16#32 = x <<< (16#32) := by
  unfold IntOp.shli; rw [if_pos (by decide)]

/-- The low half of a word, the word masked by `0xFFFF`. -/
theorem low_half (hi lo : BitVec 16) : (hi ++ lo) &&& 65535#32 = 0#16 ++ lo := IdealRules.bf16_pair.lo_of_append_and hi lo

/-- The high half of a word: shifted right by sixteen, it is already below `2 ^ 16`. -/
theorem high_half (hi lo : BitVec 16) : (hi ++ lo) >>> (16#32) = 0#16 ++ hi := IdealRules.bf16_pair.ushiftRight_16_append hi lo

/-- A pattern doubled into both halves of a word, and one of the halves read: the pattern. -/
theorem doubled (b : BitVec 16) (k : Nat) (hk : k < 2) :
    ((0#16 ++ b) ||| ((0#16 ++ b) <<< (16#32))).extractLsb' (16 * k) 16 = b := by
  rw [show (0#16 ++ b : BitVec 32) = b.setWidth 32 from by
    apply BitVec.eq_of_getLsbD_eq
    intro i hi
    simp only [BitVec.getLsbD_append, BitVec.getLsbD_setWidth]
    by_cases h : i < 16
    · simp [h, hi]
    · rw [if_neg h, BitVec.getLsbD_of_ge b i (by omega)]; simp,
    or_shiftLeft_eq_append]
  interval_cases k
  · exact BitVec.extractLsb'_append_eq_right
  · exact BitVec.extractLsb'_append_eq_left

/-- Words that hold one pattern per column in their low half, doubled into their high half and read as 16-bit rows: that pattern
    in every row. -/
theorem doubled_rows (half : Words.Idx → BitVec 32) (f : Fin 512 → BitVec 16) (hf : ∀ j, half j = 0#16 ++ f (j 1))
    (h : Words.Bitcasts 32 Tile 16) (i : Tile.Idx) :
    bitcast Tile 16 (ori half (shli half (broadcast Words 16#32))) h i = f (i 1) := by
  rw [bitcast_32_16]
  simp only [ori, IntOp.ori, shli, broadcast, shli_sixteen, hf]
  rw [doubled _ _ (Nat.mod_lt _ (by decide))]
  rfl

/-- The broadcast of one row of a pair held as 16-bit patterns, the pair's word shifted right by sixteen times the parity and
    masked, doubled, read as rows and repeated: at every index, the chosen row's pattern at that column. -/
theorem spread_row_bits (x : Pair.Idx → BitVec 16) (p : Fin 2) (sh : BitVec 32) (hs : sh = BitVec.ofNat 32 (16 * p.val))
    (h1 : Pair.Bitcasts 16 One 32) (h2 : One.ShapeCasts One) (h3 : One.Broadcasts Words) (h4 : Words.Bitcasts 32 Tile 16)
    (h5 : Shape.Concatenates [Tile, Tile] Slab 0) (half : Words.Idx → BitVec 32)
    (hh : half = andi (shrui (broadcastTo Words (shapeCast One (bitcast One 32 x h1) h2) h3) (broadcast Words sh))
      (broadcast Words 65535#32)) (i : Slab.Idx) :
    concatenate Slab 0 [⟨Tile, bitcast Tile 16 (ori half (shli half (broadcast Words 16#32))) h4⟩,
      ⟨Tile, bitcast Tile 16 (ori half (shli half (broadcast Words 16#32))) h4⟩] h5 i = x (ValueIdx.ix2 p (i 1)) := by
  rw [twice_apply, doubled_rows half (fun c => x (ValueIdx.ix2 p c))]
  · intro j
    have hw : half j = IntOp.shrui .vector (x (ValueIdx.ix2 1 (j 1)) ++ x (ValueIdx.ix2 0 (j 1))) sh &&& 65535#32 := by
      rw [hh, ← pair_word x h1 (j 1)]
      show IntOp.andi (IntOp.shrui .vector (broadcastTo Words (shapeCast One (bitcast One 32 x h1) h2) h3 j) sh) 65535#32 = _
      rw [spread_apply, shapeCast_self]
      rfl
    rw [hw, hs]
    match p with
    | ⟨0, _⟩ => exact (congrArg (· &&& 65535#32) (shrui_zero _)).trans (low_half _ _)
    | ⟨1, _⟩ =>
      refine (congrArg (· &&& 65535#32) ((shrui_sixteen _).trans (high_half _ _))).trans (low_half _ _)

/-- The broadcast of one row of a pair held as 16-bit patterns, the pair's word repeated and its half chosen by a condition, doubled,
    read as rows and repeated: at every index, the chosen row's pattern at that column. -/
theorem spread_row_words (x : Pair.Idx → BitVec 16) (p : Fin 2) (cnd : BitVec 1) (hc : cnd = if p = 0 then 1 else 0)
    (h1 : Pair.Bitcasts 16 One 32) (h3 : Shape.Concatenates [One, One, One, One, One, One, One, One] Words 0) (h4 : Words.Bitcasts 32 Tile 16)
    (h5 : Shape.Concatenates [Tile, Tile] Slab 0) (half w : Words.Idx → BitVec 32)
    (hw : w = concatenate Words 0 [⟨One, bitcast One 32 x h1⟩, ⟨One, bitcast One 32 x h1⟩, ⟨One, bitcast One 32 x h1⟩,
      ⟨One, bitcast One 32 x h1⟩, ⟨One, bitcast One 32 x h1⟩, ⟨One, bitcast One 32 x h1⟩, ⟨One, bitcast One 32 x h1⟩,
      ⟨One, bitcast One 32 x h1⟩] h3)
    (hh : half = Scalar.select cnd (andi w (broadcast Words 65535#32)) (shrui w (broadcast Words 16#32))) (i : Slab.Idx) :
    concatenate Slab 0 [⟨Tile, bitcast Tile 16 (ori half (shli half (broadcast Words 16#32))) h4⟩,
      ⟨Tile, bitcast Tile 16 (ori half (shli half (broadcast Words 16#32))) h4⟩] h5 i = x (ValueIdx.ix2 p (i 1)) := by
  have word : ∀ j : Words.Idx, w j = x (ValueIdx.ix2 1 (j 1)) ++ x (ValueIdx.ix2 0 (j 1)) := fun j => by
    rw [hw, ← pair_word x h1 (j 1)]
    exact eight_apply (bitcast One 32 x h1) h3 j
  rw [twice_apply, doubled_rows half (fun c => x (ValueIdx.ix2 p c))]
  intro j
  subst hh hc
  match p with
  | ⟨0, _⟩ => exact (congrArg (· &&& 65535#32) (word j)).trans (low_half _ _)
  | ⟨1, _⟩ => exact (shrui_sixteen (w j)).trans ((congrArg (· >>> (16#32)) (word j)).trans (high_half _ _))

/-- The broadcast of one row of a pair held as two rows of values, the row chosen by a condition, interleaved with itself and
    repeated: at every index, the chosen row at that column. -/
theorem spread_row {α : Type} (x : Pair.Idx → α) (p : Fin 2) (cnd : BitVec 1) (hc : cnd = if p = 0 then 1 else 0)
    (h1 : Pair.Bitcasts 16 One 32) (h3 : Shape.Concatenates [One, One, One, One, One, One, One, One] Words 0)
    (h4 : Tile.Bitcasts 16 Words 32) (h5 : Shape.Concatenates [Tile, Tile] Slab 0) (half lo hi : Words.Idx → α)
    (hlo : lo = concatenate Words 0 [⟨One, rowsOfParity 0 One x h1⟩, ⟨One, rowsOfParity 0 One x h1⟩, ⟨One, rowsOfParity 0 One x h1⟩,
      ⟨One, rowsOfParity 0 One x h1⟩, ⟨One, rowsOfParity 0 One x h1⟩, ⟨One, rowsOfParity 0 One x h1⟩,
      ⟨One, rowsOfParity 0 One x h1⟩, ⟨One, rowsOfParity 0 One x h1⟩] h3)
    (hhi : hi = concatenate Words 0 [⟨One, rowsOfParity 1 One x h1⟩, ⟨One, rowsOfParity 1 One x h1⟩, ⟨One, rowsOfParity 1 One x h1⟩,
      ⟨One, rowsOfParity 1 One x h1⟩, ⟨One, rowsOfParity 1 One x h1⟩, ⟨One, rowsOfParity 1 One x h1⟩,
      ⟨One, rowsOfParity 1 One x h1⟩, ⟨One, rowsOfParity 1 One x h1⟩] h3)
    (hh : half = Scalar.select cnd lo hi) (i : Slab.Idx) :
    concatenate Slab 0 [⟨Tile, interleaveRows Tile half half h4⟩, ⟨Tile, interleaveRows Tile half half h4⟩] h5 i
      = x (ValueIdx.ix2 p (i 1)) := by
  have key : ∀ j : Words.Idx, half j = x (ValueIdx.ix2 p (j 1)) := by
    intro j
    subst hlo hhi hh hc
    match p with
    | ⟨0, _⟩ =>
      refine (eight_apply (rowsOfParity 0 One x h1) h3 j).trans ?_
      unfold rowsOfParity
      congr 1; funext a; match a with | ⟨0, _⟩ => rfl | ⟨1, _⟩ => rfl
    | ⟨1, _⟩ =>
      refine (eight_apply (rowsOfParity 1 One x h1) h3 j).trans ?_
      unfold rowsOfParity
      congr 1; funext a; match a with | ⟨0, _⟩ => rfl | ⟨1, _⟩ => rfl
  rw [twice_apply, interleaveRows_apply]
  split <;> rw [key] <;> rfl

end Cert.Deq
-- ==== Proof.Deq.Spec.lean ====
module

public import proofs.«01_k».proof.Proof.Deq.Rows
public import Idealize.ShloMosaic.Lib.Pipeline.FrameBody
public import Idealize.ShloMosaic.Lib.Pipeline.ValueKit.Tiles

@[expose] public section

/-! # What a block and the whole array hold

One entry of the result is (code − zero) · scale in bf16 arithmetic, the code being the low or the high four bits of a byte.
The pieces a kernel writes into its block and the blocks it writes into the array are stated against these functions. -/

noncomputable section

namespace Cert.Deq

open Idealize.ShloMosaic

variable {F : FTy → Type} [FloatOps F]

/-- One entry: four bits of a byte (`h = 0` low, otherwise high) as a bf16 number, minus the zero point, times the scale. -/
def entry (h : Nat) (b : BitVec 8) (z s : F .bf16) : F .bf16 :=
  FloatOps.mulf (FloatOps.subf (FloatOps.sitofp .bf16 (code h b)) z) s

/-- A block of the packed bytes, a block of the scales (or zero points), and a block of the result. -/
abbrev WBlock : Shape := ⟨2, ![128, 8192]⟩
abbrev SBlock : Shape := ⟨2, ![64, 8192]⟩
abbrev OBlock : Shape := ⟨3, ![2, 128, 8192]⟩

/-- A slab of the result as it is stored. -/
abbrev Slab3 : Shape := ⟨3, ![1, 32, 512]⟩

/-- The row of scales (and zero points) that half `h` of the block of group `g` takes. -/
def srow (h : Fin 2) (g : Fin 32) : Fin 64 := ⟨32 * h.val + g.val, by omega⟩

/-- The result's block of group `g`: entry `(h, r, c)` is half `h` of byte `(r, c)`, with the zero point and the scale of row
    `32 h + g` at column `c`. -/
def block (g : Fin 32) (w : WBlock.Idx → BitVec 8) (s z : SBlock.Idx → F .bf16) (y : OBlock.Idx) : F .bf16 :=
  entry (y 0).val (w (ValueIdx.ix2 (y 1) (y 2))) (z (ValueIdx.ix2 (srow (y 0) g) (y 2))) (s (ValueIdx.ix2 (srow (y 0) g) (y 2)))

/-- A stored slab, at an index: the entry of the byte there, with the zero point and the scale of row `p` of the pair loaded. -/
theorem slab_pay (h : Nat) (p : Fin 2) (wl codes : Slab.Idx → BitVec 8) (hc : ∀ i, codes i = code h (wl i))
    (zt st : Slab.Idx → F .bf16) (zl sl : Pair.Idx → F .bf16) (hz : ∀ i : Slab.Idx, zt i = zl (ValueIdx.ix2 p (i 1)))
    (hs : ∀ i : Slab.Idx, st i = sl (ValueIdx.ix2 p (i 1))) (hcast : Slab.ShapeCasts Slab3) (x : Slab3.Idx) :
    shapeCast Slab3 (mulf (subf (sitofp (F := F) .bf16 codes) zt) st) hcast x
      = entry h (wl (ValueIdx.ix2 (x 1) (x 2))) (zl (ValueIdx.ix2 p (x 2))) (sl (ValueIdx.ix2 p (x 2))) := by
  have e : ∀ i : Slab.Idx, mulf (subf (sitofp (F := F) .bf16 codes) zt) st i
      = entry h (wl i) (zl (ValueIdx.ix2 p (i 1))) (sl (ValueIdx.ix2 p (i 1))) := by
    intro i
    show FloatOps.mulf (FloatOps.subf (FloatOps.sitofp .bf16 (codes i)) (zt i)) (st i) = _
    rw [hc, hz, hs]
    rfl
  have i : (fun a => x a.succ : Slab.Idx) = ValueIdx.ix2 (x 1) (x 2) := by
    funext a; match a with | ⟨0, _⟩ => rfl | ⟨1, _⟩ => rfl
  refine (shapeCast_addUnit_apply ![32, 512] _ hcast x).trans ?_
  refine (congrArg (mulf (subf (sitofp (F := F) .bf16 codes) zt) st) i).trans ?_
  exact e _

/-- A slab of entries placed in its block: with the bytes loaded at row `r`, the pair of scale rows at the even row below
    `32 h + g`, and the slab stored at row `r` of half `h`, all at column `512 k`, it agrees with `block`. -/
theorem slab_block (h : Fin 2) (g : Fin 32) (r k : Nat) (w : WBlock.Idx → BitVec 8) (s z : SBlock.Idx → F .bf16)
    (pay : Slab3.Idx → F .bf16) (offw offs : Fin 2 → Nat) (offo : Fin 3 → Nat)
    (inbw : ∀ a, offw a + Slab.size a ≤ WBlock.size a) (inbs : ∀ a, offs a + Pair.size a ≤ SBlock.size a)
    (inbo : ∀ a, offo a + Slab3.size a ≤ OBlock.size a) (hw : offw = ![r, 512 * k])
    (hs : offs = ![2 * ((32 * h.val + g.val) / 2), 512 * k]) (ho : offo = ![h.val, r, 512 * k])
    (hpay : ∀ x : Slab3.Idx, pay x = entry h.val (w ((Rect.unit (s := WBlock) offw Slab.size inbw).idx (ValueIdx.ix2 (x 1) (x 2) : Slab.Idx)))
      (z ((Rect.unit (s := SBlock) offs Pair.size inbs).idx (ValueIdx.ix2 ⟨g.val % 2, Nat.mod_lt _ (by decide)⟩ (x 2) : Pair.Idx)))
      (s ((Rect.unit (s := SBlock) offs Pair.size inbs).idx (ValueIdx.ix2 ⟨g.val % 2, Nat.mod_lt _ (by decide)⟩ (x 2) : Pair.Idx))))
    (x : Slab3.Idx) : pay x = block g w s z ((Rect.unit (s := OBlock) offo Slab3.size inbo).emb x) := by
  have v : ∀ a, ((Rect.unit (s := OBlock) offo Slab3.size inbo).emb x a).val = offo a + (x a).val := fun a => by
    rw [Rect.emb_apply]; exact Rect.idx_unit_val (s := OBlock) offo Slab3.size inbo x a
  have x0 : (x 0).val = 0 := by have : (x 0).val < 1 := (x 0).isLt; omega
  have v0 := v 0
  have v1 := v 1
  have v2 := v 2
  have o0 : offo 0 = h.val := by rw [ho]; rfl
  have o1 : offo 1 = r := by rw [ho]; rfl
  have o2 : offo 2 = 512 * k := by rw [ho]; rfl
  have w0 : offw 0 = r := by rw [hw]; rfl
  have w1 : offw 1 = 512 * k := by rw [hw]; rfl
  have s0 : offs 0 = 2 * ((32 * h.val + g.val) / 2) := by rw [hs]; rfl
  have s1 : offs 1 = 512 * k := by rw [hs]; rfl
  rw [hpay]
  have e0 : (Rect.unit (s := OBlock) offo Slab3.size inbo).emb x 0 = h := Fin.ext (by rw [v0, o0, x0]; rfl)
  have ew : (Rect.unit (s := WBlock) offw Slab.size inbw).idx (ValueIdx.ix2 (x 1) (x 2) : Slab.Idx)
      = ValueIdx.ix2 ((Rect.unit (s := OBlock) offo Slab3.size inbo).emb x 1) ((Rect.unit (s := OBlock) offo Slab3.size inbo).emb x 2) := by
    funext a
    apply Fin.ext
    rw [Rect.idx_unit_val]
    match a with
    | ⟨0, _⟩ => exact (congrArg (· + (x 1).val) (w0.trans o1.symm)).trans v1.symm
    | ⟨1, _⟩ => exact (congrArg (· + (x 2).val) (w1.trans o2.symm)).trans v2.symm
  have es : (Rect.unit (s := SBlock) offs Pair.size inbs).idx (ValueIdx.ix2 ⟨g.val % 2, Nat.mod_lt _ (by decide)⟩ (x 2) : Pair.Idx)
      = ValueIdx.ix2 (srow h g) ((Rect.unit (s := OBlock) offo Slab3.size inbo).emb x 2) := by
    funext a
    apply Fin.ext
    rw [Rect.idx_unit_val]
    match a with
    | ⟨0, _⟩ =>
      show offs 0 + g.val % 2 = 32 * h.val + g.val
      rw [s0]; omega
    | ⟨1, _⟩ => exact (congrArg (· + (x 2).val) (s1.trans o2.symm)).trans v2.symm
  rw [ew, es]
  unfold block
  rw [e0]
  rfl

end Cert.Deq
-- ==== Proof.Deq.Parity.lean ====
/- The parity of a row number as a kernel computes it: the remainder by two of a signed word, corrected for the sign of the divisor. -/
module

public import Idealize.ShloMosaic.PureOps.Vector

@[expose] public section

namespace Cert.Deq

open Idealize.ShloMosaic

/-- The floor remainder of a word by two, in the operations a kernel computes it by. -/
def parity (n : BitVec 32) : BitVec 32 :=
  let d : BitVec 32 := Scalar.select (Scalar.cmpi .eq 2#32 0#32) 1#32 2#32
  let m : BitVec 32 := Scalar.remsi n d
  Scalar.select (Scalar.andi (Scalar.xori (Scalar.cmpi .slt m 0#32) (Scalar.cmpi .slt d 0#32)) (Scalar.cmpi .ne m 0#32)) (Scalar.addi m d) m

/-- The shift that brings down row `32 h + g` of a pair is sixteen times the parity of `g`. -/
theorem parity_shift : ∀ h : Fin 2, ∀ g : Fin 32,
    Scalar.muli (parity (Scalar.addi (BitVec.ofNat 32 (32 * h.val)) (BitVec.ofNat 32 g.val))) 16#32
      = BitVec.ofNat 32 (16 * (g.val % 2)) := by decide +kernel

/-- The condition that row `32 h + g` is the even row of its pair is the condition that `g` is even. -/
theorem parity_cond : ∀ h : Fin 2, ∀ g : Fin 32,
    Scalar.cmpi .eq (parity (Scalar.addi (BitVec.ofNat 32 (32 * h.val)) (BitVec.ofNat 32 g.val))) 0#32
      = if (⟨g.val % 2, Nat.mod_lt _ (by decide)⟩ : Fin 2) = 0 then 1 else 0 := by decide +kernel

end Cert.Deq
-- ==== Proof.Deq.KernelTrip.lean ====
/- What one trip of the kernel's loop stores: four slabs of 32 rows in each half of the block, every one of them a slab of the
   block's entries. -/
module

public import proofs.«01_k».proof.Proof.Deq.Spec
public import proofs.«01_k».proof.Proof.Deq.Parity
public import proofs.«01_k».proof.Proof.Gen.Kernel.Frame

@[expose] public section

set_option maxRecDepth 16384

noncomputable section

namespace Cert.Deq.Kernel

open Idealize.ShloMosaic Idealize.ShloMosaic.TcCoe Idealize.ShloMosaic.Tactic
open Cert.Kernel Cert.Kernel.Gen

/-- The row of a pair that group `g` takes. -/
abbrev odd (g : Fin 32) : Fin 2 := ⟨g.val % 2, Nat.mod_lt _ (by decide)⟩

/-- The scales of half 0, spread over 32 rows from the pair loaded. -/
abbrev scale0 (g : Fin 32) (raw : Vec Bits S2x512 .bf16) : FVec Bits S32x512 .bf16 :=
  k0_pay7 (F := Bits) (k0_pay4 (k0_pay3 (BitVec.ofNat 32 g.val) raw) 16#32)
/-- The zero points of half 0. -/
abbrev zero0 (g : Fin 32) (raw : Vec Bits S2x512 .bf16) : FVec Bits S32x512 .bf16 :=
  k0_pay8 (F := Bits) (k0_pay5 (Scalar.addi 0#32 (BitVec.ofNat 32 g.val)) raw) (k0_pay6 (Scalar.addi 0#32 (BitVec.ofNat 32 g.val)) raw)
/-- The scales of half 1. -/
abbrev scale1 (g : Fin 32) (raw : Vec Bits S2x512 .bf16) : FVec Bits S32x512 .bf16 :=
  k0_pay13 (F := Bits) (k0_pay10 (k0_pay9 (BitVec.ofNat 32 g.val) raw) 16#32)
/-- The zero points of half 1. -/
abbrev zero1 (g : Fin 32) (raw : Vec Bits S2x512 .bf16) : FVec Bits S32x512 .bf16 :=
  k0_pay14 (F := Bits) (k0_pay11 (Scalar.addi 32#32 (BitVec.ofNat 32 g.val)) raw) (k0_pay12 (Scalar.addi 32#32 (BitVec.ofNat 32 g.val)) raw)

/-- A pair loaded, as its 16-bit patterns. -/
abbrev bits (raw : Vec Bits S2x512 .bf16) : Pair.Idx → BitVec 16 := bitcastToInt (F := Bits) (φ := .bf16) raw

/-- The pair's words, shifted right by sixteen times the parity of row `n + g` and masked to their low halves. -/
def half (n : BitVec 32) (g : Fin 32) (raw : Vec Bits S2x512 .bf16) : IVec S8x512 32 :=
  andi (shrui (broadcastTo S8x512 (shapeCast S1x512 (bitcast S1x512 32 (bits raw) bitcasts_S2x512_w16_S1x512_w32)
      shapeCasts_S1x512_S1x512) broadcasts_S1x512_S8x512)
    (broadcast S8x512 (Scalar.muli (parity (Scalar.addi n (BitVec.ofNat 32 g.val))) 16#32))) (broadcast S8x512 65535#32)

/-- The four half-word payloads of the trip are these. -/
theorem pay3_eq (g : Fin 32) (raw : Vec Bits S2x512 .bf16) : k0_pay3 (F := Bits) (BitVec.ofNat 32 g.val) raw = half 0#32 g raw := by
  unfold k0_pay3 half parity
  rfl
theorem pay5_eq (g : Fin 32) (raw : Vec Bits S2x512 .bf16) : k0_pay5 (F := Bits) (Scalar.addi 0#32 (BitVec.ofNat 32 g.val)) raw = half 0#32 g raw := by
  unfold k0_pay5 half parity
  rfl
theorem pay9_eq (g : Fin 32) (raw : Vec Bits S2x512 .bf16) : k0_pay9 (F := Bits) (BitVec.ofNat 32 g.val) raw = half 32#32 g raw := by
  unfold k0_pay9 half parity
  rfl
theorem pay11_eq (g : Fin 32) (raw : Vec Bits S2x512 .bf16) : k0_pay11 (F := Bits) (Scalar.addi 32#32 (BitVec.ofNat 32 g.val)) raw = half 32#32 g raw := by
  unfold k0_pay11 half parity
  rfl

/-- The half words doubled, read as bf16 rows and repeated hold, in every row, the pair's row of the parity of `g`. -/
theorem half_apply (h : Fin 2) (g : Fin 32) (raw : Vec Bits S2x512 .bf16) (i : S32x512.Idx) (y : IVec S8x512 32)
    (hy : y = half (BitVec.ofNat 32 (32 * h.val)) g raw) :
    concatenate S32x512 0
      [⟨S16x512, bitcastToFloat (F := Bits) .bf16 (bitcast S16x512 16 (ori y (shli y (broadcast S8x512 16#32))) bitcasts_S8x512_w32_S16x512_w16)⟩,
        ⟨S16x512, bitcastToFloat (F := Bits) .bf16 (bitcast S16x512 16 (ori y (shli y (broadcast S8x512 16#32))) bitcasts_S8x512_w32_S16x512_w16)⟩]
      concatenates_S16x512_S16x512_S32x512_d0 i = raw (ValueIdx.ix2 (odd g) (i 1)) := by
  have h := spread_row_bits (bits raw) (odd g) (Scalar.muli (parity (Scalar.addi (BitVec.ofNat 32 (32 * h.val)) (BitVec.ofNat 32 g.val))) 16#32)
    (parity_shift h g) bitcasts_S2x512_w16_S1x512_w32 shapeCasts_S1x512_S1x512 broadcasts_S1x512_S8x512 bitcasts_S8x512_w32_S16x512_w16
    concatenates_S16x512_S16x512_S32x512_d0 y hy i
  exact h

/-- Each of the four holds, in every row, the pair's row of the parity of `g`. -/
theorem scale0_apply (g : Fin 32) (raw : Vec Bits S2x512 .bf16) (i : S32x512.Idx) :
    scale0 g raw i = raw (ValueIdx.ix2 (odd g) (i 1)) := by
  unfold scale0 k0_pay7 k0_pay4
  exact half_apply 0 g raw i _ (pay3_eq g raw)
theorem zero0_apply (g : Fin 32) (raw : Vec Bits S2x512 .bf16) (i : S32x512.Idx) :
    zero0 g raw i = raw (ValueIdx.ix2 (odd g) (i 1)) := by
  unfold zero0 k0_pay8 k0_pay6
  exact half_apply 0 g raw i _ (pay5_eq g raw)
theorem scale1_apply (g : Fin 32) (raw : Vec Bits S2x512 .bf16) (i : S32x512.Idx) :
    scale1 g raw i = raw (ValueIdx.ix2 (odd g) (i 1)) := by
  unfold scale1 k0_pay13 k0_pay10
  exact half_apply 1 g raw i _ (pay9_eq g raw)
theorem zero1_apply (g : Fin 32) (raw : Vec Bits S2x512 .bf16) (i : S32x512.Idx) :
    zero1 g raw i = raw (ValueIdx.ix2 (odd g) (i 1)) := by
  unfold zero1 k0_pay14 k0_pay12
  exact half_apply 1 g raw i _ (pay11_eq g raw)

/-- A stored slab of half 0, at an index: the entry of the low four bits of the byte there. -/
theorem low_slab (g : Fin 32) (s z : Vec Bits S2x512 .bf16) (w : Vec Bits S32x512 .i8) (x : S1x32x512.Idx) :
    k0_pay16 (F := Bits) (scale0 g s) (zero0 g z) w x
      = entry 0 (w (ValueIdx.ix2 (x 1) (x 2))) (z (ValueIdx.ix2 (odd g) (x 2))) (s (ValueIdx.ix2 (odd g) (x 2))) := by
  unfold k0_pay16
  exact slab_pay (F := Bits) 0 (odd g) w _ (low_codes w bitcasts_S32x512_w8_S8x512_w32 bitcasts_S8x512_w32_S32x512_w8)
    (zero0 g z) (scale0 g s) z s (zero0_apply g z) (scale0_apply g s) _ x

/-- A stored slab of half 1, at an index: the entry of the high four bits of the byte there. -/
theorem high_slab (g : Fin 32) (s z : Vec Bits S2x512 .bf16) (w : Vec Bits S32x512 .i8) (x : S1x32x512.Idx) :
    k0_pay25 (F := Bits) (scale1 g s) (zero1 g z) w x
      = entry 1 (w (ValueIdx.ix2 (x 1) (x 2))) (z (ValueIdx.ix2 (odd g) (x 2))) (s (ValueIdx.ix2 (odd g) (x 2))) := by
  unfold k0_pay25
  exact slab_pay (F := Bits) 1 (odd g) w _ (high_codes w bitcasts_S32x512_w8_S8x512_w32 bitcasts_S8x512_w32_S32x512_w8)
    (zero1 g z) (scale1 g s) z s (zero1_apply g z) (scale1_apply g s) _ x

/-- The pairs of scale rows loaded: those that hold row `32 h + g`, at the trip's columns. -/
theorem off1_eq : ∀ (h : Fin 2) (i : grid0.Coords) (k : Fin k0_t1_loop.trips), k0_off1 i k (BitVec.ofNat 32 (32 * h.val))
    = ![2 * ((32 * h.val + (i 1).val) / 2), 512 * k.val] := by decide +kernel

/-- The pair of rows a trip loads of the scales (or zero points) for half `h`. -/
abbrev pairOf (h : Fin 2) (i : grid0.Coords) (k : Fin k0_t1_loop.trips) (a : Memref sig .tc .vmem S64x8192 .bf16)
    (X : BufTy.Contents (Elt Bits) a.view.ty) : Vec Bits S2x512 .bf16 :=
  View.readAt (Elt Bits) a.view (Rect.unit (s := S64x8192) (k0_off1 i k (BitVec.ofNat 32 (32 * h.val))) S2x512.size (k0_off1_inb i k h)).toLoadRect X

/-- The pieces one trip writes, last first. -/
theorem trip_list (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole) (X2 : BufTy.Contents (Elt Bits) arg2.view.ty)
    (X3 : BufTy.Contents (Elt Bits) arg3.view.ty) (X4 : BufTy.Contents (Elt Bits) arg4.view.ty) (k : Fin k0_t1_loop.trips) :
    tripL_k0_t1 (F := Bits) Variants.none c none i arg2 harg2 arg3 harg3 arg4 harg4 arg5 harg5 (BitVec.ofNat 32 (i 1).val) X2 X3 X4 k =
      [⟨Rect.unit (s := S2x128x8192) (k0_off13 k) S1x32x512.size (k0_off13_inb k), k0_pay2 (F := Bits) (scale1 (i 1) (pairOf 1 i k arg3 X3)) (zero1 (i 1) (pairOf 1 i k arg4 X4)) (k0_pay28 (View.readAt (Elt Bits) arg2.view (Rect.unit (s := S128x8192) (k0_off11 k) S32x512.size (k0_off11_inb k)).toLoadRect X2)) 252645135#32⟩,
        ⟨Rect.unit (s := S2x128x8192) (k0_off12 k) S1x32x512.size (k0_off12_inb k), k0_pay1 (F := Bits) (scale0 (i 1) (pairOf 0 i k arg3 X3)) (zero0 (i 1) (pairOf 0 i k arg4 X4)) (k0_pay27 (View.readAt (Elt Bits) arg2.view (Rect.unit (s := S128x8192) (k0_off11 k) S32x512.size (k0_off11_inb k)).toLoadRect X2))⟩,
        ⟨Rect.unit (s := S2x128x8192) (k0_off10 k) S1x32x512.size (k0_off10_inb k), k0_pay25 (F := Bits) (scale1 (i 1) (pairOf 1 i k arg3 X3)) (zero1 (i 1) (pairOf 1 i k arg4 X4)) (View.readAt (Elt Bits) arg2.view (Rect.unit (s := S128x8192) (k0_off8 k) S32x512.size (k0_off8_inb k)).toLoadRect X2)⟩,
        ⟨Rect.unit (s := S2x128x8192) (k0_off9 k) S1x32x512.size (k0_off9_inb k), k0_pay24 (F := Bits) (scale0 (i 1) (pairOf 0 i k arg3 X3)) (zero0 (i 1) (pairOf 0 i k arg4 X4)) (View.readAt (Elt Bits) arg2.view (Rect.unit (s := S128x8192) (k0_off8 k) S32x512.size (k0_off8_inb k)).toLoadRect X2)⟩,
        ⟨Rect.unit (s := S2x128x8192) (k0_off7 k) S1x32x512.size (k0_off7_inb k), k0_pay22 (F := Bits) (scale1 (i 1) (pairOf 1 i k arg3 X3)) (zero1 (i 1) (pairOf 1 i k arg4 X4)) (k0_pay19 (View.readAt (Elt Bits) arg2.view (Rect.unit (s := S128x8192) (k0_off5 k) S32x512.size (k0_off5_inb k)).toLoadRect X2))⟩,
        ⟨Rect.unit (s := S2x128x8192) (k0_off6 k) S1x32x512.size (k0_off6_inb k), k0_pay21 (F := Bits) (k0_pay20 (scale0 (i 1) (pairOf 0 i k arg3 X3)) (zero0 (i 1) (pairOf 0 i k arg4 X4)) (View.readAt (Elt Bits) arg2.view (Rect.unit (s := S128x8192) (k0_off5 k) S32x512.size (k0_off5_inb k)).toLoadRect X2))⟩,
        ⟨Rect.unit (s := S2x128x8192) (k0_off4 k) S1x32x512.size (k0_off4_inb k), k0_pay17 (F := Bits) (k0_pay10 (k0_pay9 (BitVec.ofNat 32 (i 1).val) (pairOf 1 i k arg3 X3)) 16#32) (k0_pay11 (Scalar.addi 32#32 (BitVec.ofNat 32 (i 1).val)) (pairOf 1 i k arg4 X4)) (k0_pay12 (Scalar.addi 32#32 (BitVec.ofNat 32 (i 1).val)) (pairOf 1 i k arg4 X4)) (View.readAt (Elt Bits) arg2.view (Rect.unit (s := S128x8192) (k0_off2 k) S32x512.size (k0_off2_inb k)).toLoadRect X2)⟩,
        ⟨Rect.unit (s := S2x128x8192) (k0_off3 k) S1x32x512.size (k0_off3_inb k), k0_pay16 (F := Bits) (scale0 (i 1) (pairOf 0 i k arg3 X3)) (zero0 (i 1) (pairOf 0 i k arg4 X4)) (View.readAt (Elt Bits) arg2.view (Rect.unit (s := S128x8192) (k0_off2 k) S32x512.size (k0_off2_inb k)).toLoadRect X2)⟩] := by
  unfold tripL_k0_t1 trip_k0_t1
  dsimp only
  sl_unfold_words
  rfl

/-- The slabs of half 0 are one function of the scales, the zero points and the bytes, however the trip's lines are grouped; -/
theorem pay1_eq (s z : FVec Bits S32x512 .bf16) (w : Vec Bits S32x512 .i8) : k0_pay1 (F := Bits) s z (k0_pay27 (F := Bits) w) = k0_pay16 s z w := rfl
theorem pay21_eq (s z : FVec Bits S32x512 .bf16) (w : Vec Bits S32x512 .i8) : k0_pay21 (F := Bits) (k0_pay20 s z w) = k0_pay16 s z w := rfl
theorem pay24_eq (s z : FVec Bits S32x512 .bf16) (w : Vec Bits S32x512 .i8) : k0_pay24 (F := Bits) s z w = k0_pay16 s z w := rfl
/-- and so are those of half 1. -/
theorem pay2_eq (s z : FVec Bits S32x512 .bf16) (w : Vec Bits S32x512 .i8) : k0_pay2 (F := Bits) s z (k0_pay28 (F := Bits) w) 252645135#32 = k0_pay25 s z w := rfl
theorem pay22_eq (s z : FVec Bits S32x512 .bf16) (w : Vec Bits S32x512 .i8) : k0_pay22 (F := Bits) s z (k0_pay19 (F := Bits) w) = k0_pay25 s z w := rfl
theorem pay17_eq (a : FVec Bits S16x512 .bf16) (b d : IVec S8x512 32) (w : Vec Bits S32x512 .i8) :
    k0_pay17 (F := Bits) a b d w = k0_pay25 (k0_pay13 a) (k0_pay14 b d) w := rfl

/-- A slab of half 0 (then of half 1) computed from what is loaded of the three blocks agrees with the block's entries where it is stored. -/
theorem low_piece (g : Fin 32) (r k : Nat) (x0 : Vec Bits S128x8192 .i8) (x1 x2 : Vec Bits S64x8192 .bf16) (offw offs : Fin 2 → Nat) (offo : Fin 3 → Nat)
    (inbw : ∀ a, offw a + S32x512.size a ≤ S128x8192.size a) (inbs : ∀ a, offs a + S2x512.size a ≤ S64x8192.size a)
    (inbo : ∀ a, offo a + S1x32x512.size a ≤ S2x128x8192.size a) (hw : offw = ![r, 512 * k])
    (hs : offs = ![2 * ((32 * 0 + g.val) / 2), 512 * k]) (ho : offo = ![0, r, 512 * k]) (x : S1x32x512.Idx) :
    k0_pay16 (F := Bits) (scale0 g (View.ld (Val := Elt Bits) (e' := .bf16) x1 (Rect.unit (s := S64x8192) offs S2x512.size inbs)))
        (zero0 g (View.ld (Val := Elt Bits) (e' := .bf16) x2 (Rect.unit (s := S64x8192) offs S2x512.size inbs)))
        (View.ld (Val := Elt Bits) (e' := .i8) x0 (Rect.unit (s := S128x8192) offw S32x512.size inbw)) x
      = block (F := Bits) g x0 x1 x2 ((Rect.unit (s := S2x128x8192) offo S1x32x512.size inbo).emb x) :=
  slab_block (F := Bits) 0 g r k x0 x1 x2 _ offw offs offo inbw inbs inbo hw hs ho
    (fun x => low_slab g (View.ld (Val := Elt Bits) (e' := .bf16) x1 (Rect.unit (s := S64x8192) offs S2x512.size inbs))
        (View.ld (Val := Elt Bits) (e' := .bf16) x2 (Rect.unit (s := S64x8192) offs S2x512.size inbs))
        (View.ld (Val := Elt Bits) (e' := .i8) x0 (Rect.unit (s := S128x8192) offw S32x512.size inbw)) x) x

theorem high_piece (g : Fin 32) (r k : Nat) (x0 : Vec Bits S128x8192 .i8) (x1 x2 : Vec Bits S64x8192 .bf16) (offw offs : Fin 2 → Nat) (offo : Fin 3 → Nat)
    (inbw : ∀ a, offw a + S32x512.size a ≤ S128x8192.size a) (inbs : ∀ a, offs a + S2x512.size a ≤ S64x8192.size a)
    (inbo : ∀ a, offo a + S1x32x512.size a ≤ S2x128x8192.size a) (hw : offw = ![r, 512 * k])
    (hs : offs = ![2 * ((32 * 1 + g.val) / 2), 512 * k]) (ho : offo = ![1, r, 512 * k]) (x : S1x32x512.Idx) :
    k0_pay25 (F := Bits) (scale1 g (View.ld (Val := Elt Bits) (e' := .bf16) x1 (Rect.unit (s := S64x8192) offs S2x512.size inbs)))
        (zero1 g (View.ld (Val := Elt Bits) (e' := .bf16) x2 (Rect.unit (s := S64x8192) offs S2x512.size inbs)))
        (View.ld (Val := Elt Bits) (e' := .i8) x0 (Rect.unit (s := S128x8192) offw S32x512.size inbw)) x
      = block (F := Bits) g x0 x1 x2 ((Rect.unit (s := S2x128x8192) offo S1x32x512.size inbo).emb x) :=
  slab_block (F := Bits) 1 g r k x0 x1 x2 _ offw offs offo inbw inbs inbo hw hs ho
    (fun x => high_slab g (View.ld (Val := Elt Bits) (e' := .bf16) x1 (Rect.unit (s := S64x8192) offs S2x512.size inbs))
        (View.ld (Val := Elt Bits) (e' := .bf16) x2 (Rect.unit (s := S64x8192) offs S2x512.size inbs))
        (View.ld (Val := Elt Bits) (e' := .i8) x0 (Rect.unit (s := S128x8192) offw S32x512.size inbw)) x) x

/-- Every slab one trip stores agrees with the block's entries where it is placed. -/
theorem trip_agrees (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Bits S128x8192 .i8) (x1 : Vec Bits S64x8192 .bf16) (x2 : Vec Bits S64x8192 .bf16) (k : Fin k0_t1_loop.trips) :
    ∀ p ∈ tripL_k0_t1 (F := Bits) Variants.none c none i arg2 harg2 arg3 harg3 arg4 harg4 arg5 harg5 (BitVec.ofNat 32 (i 1).val)
      (harg2.unread x0) (harg3.unread x1) (harg4.unread x2) k, ∀ x, p.2 x = block (F := Bits) (i 1) x0 x1 x2 (p.1.emb x) := by
  rw [trip_list]
  unfold pairOf
  rw [View.readAt_eq_ld, View.readAt_eq_ld, View.readAt_eq_ld, View.readAt_eq_ld, View.readAt_eq_ld, View.readAt_eq_ld, View.readAt_eq_ld, View.readAt_eq_ld,
    harg2.read_unread, harg3.read_unread, harg4.read_unread, pay1_eq, pay2_eq, pay21_eq, pay22_eq, pay24_eq, pay17_eq]
  intro p hp
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  · exact absurd hp List.not_mem_nil
  all_goals intro x
  · exact high_piece (i 1) 96 k.val x0 x1 x2 (k0_off11 k) (k0_off1 i k (BitVec.ofNat 32 (32 * (Fin.val (n := 2) 1)))) (k0_off13 k)
      (k0_off11_inb k) (k0_off1_inb i k 1) (k0_off13_inb k) (k0_off11_eq k) (off1_eq 1 i k) (k0_off13_eq k) x
  · exact low_piece (i 1) 96 k.val x0 x1 x2 (k0_off11 k) (k0_off1 i k (BitVec.ofNat 32 (32 * (Fin.val (n := 2) 0)))) (k0_off12 k)
      (k0_off11_inb k) (k0_off1_inb i k 0) (k0_off12_inb k) (k0_off11_eq k) (off1_eq 0 i k) (k0_off12_eq k) x
  · exact high_piece (i 1) 64 k.val x0 x1 x2 (k0_off8 k) (k0_off1 i k (BitVec.ofNat 32 (32 * (Fin.val (n := 2) 1)))) (k0_off10 k)
      (k0_off8_inb k) (k0_off1_inb i k 1) (k0_off10_inb k) (k0_off8_eq k) (off1_eq 1 i k) (k0_off10_eq k) x
  · exact low_piece (i 1) 64 k.val x0 x1 x2 (k0_off8 k) (k0_off1 i k (BitVec.ofNat 32 (32 * (Fin.val (n := 2) 0)))) (k0_off9 k)
      (k0_off8_inb k) (k0_off1_inb i k 0) (k0_off9_inb k) (k0_off8_eq k) (off1_eq 0 i k) (k0_off9_eq k) x
  · exact high_piece (i 1) 32 k.val x0 x1 x2 (k0_off5 k) (k0_off1 i k (BitVec.ofNat 32 (32 * (Fin.val (n := 2) 1)))) (k0_off7 k)
      (k0_off5_inb k) (k0_off1_inb i k 1) (k0_off7_inb k) (k0_off5_eq k) (off1_eq 1 i k) (k0_off7_eq k) x
  · exact low_piece (i 1) 32 k.val x0 x1 x2 (k0_off5 k) (k0_off1 i k (BitVec.ofNat 32 (32 * (Fin.val (n := 2) 0)))) (k0_off6 k)
      (k0_off5_inb k) (k0_off1_inb i k 0) (k0_off6_inb k) (k0_off5_eq k) (off1_eq 0 i k) (k0_off6_eq k) x
  · exact high_piece (i 1) 0 k.val x0 x1 x2 (k0_off2 k) (k0_off1 i k (BitVec.ofNat 32 (32 * (Fin.val (n := 2) 1)))) (k0_off4 k)
      (k0_off2_inb k) (k0_off1_inb i k 1) (k0_off4_inb k) (k0_off2_eq k) (off1_eq 1 i k) (k0_off4_eq k) x
  · exact low_piece (i 1) 0 k.val x0 x1 x2 (k0_off2 k) (k0_off1 i k (BitVec.ofNat 32 (32 * (Fin.val (n := 2) 0)))) (k0_off3 k)
      (k0_off2_inb k) (k0_off1_inb i k 0) (k0_off3_inb k) (k0_off2_eq k) (off1_eq 0 i k) (k0_off3_eq k) x

end Cert.Deq.Kernel
-- ==== Proof.Deq.Whole.lean ====
/- The whole result: every block is the part of one array the block stands at, and the result is that array with its two halves put
   one below the other. -/
module

public import proofs.«01_k».proof.Proof.Deq.Spec

@[expose] public section

noncomputable section

namespace Cert.Deq

open Idealize.ShloMosaic

variable {F : FTy → Type} [FloatOps F]

/-- The packed bytes, the scales (or zero points), the array of the two halves, and the result. -/
abbrev WArr : Shape := ⟨2, ![4096, 32768]⟩
abbrev SArr : Shape := ⟨2, ![64, 32768]⟩
abbrev OArr : Shape := ⟨3, ![2, 4096, 32768]⟩
abbrev Out : Shape := ⟨2, ![8192, 32768]⟩

/-- The group of 128 rows a row of the packed bytes lies in. -/
def group (r : Fin 4096) : Fin 32 := ⟨r.val / 128, by omega⟩

/-- The array of the two halves: entry `(h, r, c)` is half `h` of byte `(r, c)`, with the zero point and the scale of its group. -/
def whole (w : WArr.Idx → BitVec 8) (s z : SArr.Idx → F .bf16) (y : OArr.Idx) : F .bf16 :=
  entry (y 0).val (w (ValueIdx.ix2 (y 1) (y 2))) (z (ValueIdx.ix2 (srow (y 0) (group (y 1))) (y 2)))
    (s (ValueIdx.ix2 (srow (y 0) (group (y 1))) (y 2)))

/-- A block of group `g` and column block `j`, computed from the parts of the arrays there, is the array's part there. -/
theorem block_eq_whole (g : Fin 32) (j : Nat) (w : WArr.Idx → BitVec 8) (s z : SArr.Idx → F .bf16)
    (wb : WBlock.Idx → BitVec 8) (sb zb : SBlock.Idx → F .bf16)
    (hw : ∀ (y : WBlock.Idx) (y' : WArr.Idx), (y' 0).val = g.val * 128 + (y 0).val → (y' 1).val = j * 8192 + (y 1).val → wb y = w y')
    (hs : ∀ (y : SBlock.Idx) (y' : SArr.Idx), (y' 0).val = (y 0).val → (y' 1).val = j * 8192 + (y 1).val → sb y = s y')
    (hz : ∀ (y : SBlock.Idx) (y' : SArr.Idx), (y' 0).val = (y 0).val → (y' 1).val = j * 8192 + (y 1).val → zb y = z y')
    (y : OBlock.Idx) (y' : OArr.Idx) (h0 : (y' 0).val = (y 0).val) (h1 : (y' 1).val = g.val * 128 + (y 1).val)
    (h2 : (y' 2).val = j * 8192 + (y 2).val) : block g wb sb zb y = whole w s z y' := by
  have b1 : (y 1).val < 128 := (y 1).isLt
  have e : (y' 1).val / 128 = g.val := by omega
  have es : (srow (y' 0) (group (y' 1))).val = (srow (y 0) g).val := by
    show 32 * (y' 0).val + (y' 1).val / 128 = 32 * (y 0).val + g.val
    rw [e, h0]
  unfold block whole
  rw [hw (ValueIdx.ix2 (y 1) (y 2)) (ValueIdx.ix2 (y' 1) (y' 2)) h1 h2,
    hs (ValueIdx.ix2 (srow (y 0) g) (y 2)) (ValueIdx.ix2 (srow (y' 0) (group (y' 1))) (y' 2)) es h2,
    hz (ValueIdx.ix2 (srow (y 0) g) (y 2)) (ValueIdx.ix2 (srow (y' 0) (group (y' 1))) (y' 2)) es h2, h0]

end Cert.Deq
-- ==== Proof.Deq.KernelRun.lean ====
/- What the kernel's run leaves: the loop's pieces make up the block, the blocks make up the array, and the reshape after the call
   puts the array's two halves one below the other. -/
module

public import proofs.«01_k».proof.Proof.Deq.KernelTrip
public import proofs.«01_k».proof.Proof.Deq.Whole
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.Deq.Kernel

open Idealize.ShloMosaic Idealize.ShloMosaic.TcCoe Idealize.ShloMosaic.Tactic Idealize.SL.Sem
open Idealize.ShloMosaic.Pipeline (Dat)
open Cert.Kernel Cert.Kernel.Gen

/-- Every slab the first `n` trips store agrees with the block's entries where it is placed. -/
theorem pieces_agree (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Bits S128x8192 .i8) (x1 : Vec Bits S64x8192 .bf16) (x2 : Vec Bits S64x8192 .bf16) :
    ∀ n : Nat, n ≤ k0_t1_loop.trips →
    ∀ p ∈ pb_k0_t1 (F := Bits) Variants.none c none i arg2 harg2 arg3 harg3 arg4 harg4 arg5 harg5 (BitVec.ofNat 32 (i 1).val)
      (harg2.unread x0) (harg3.unread x1) (harg4.unread x2) n, ∀ x, p.2 x = block (F := Bits) (i 1) x0 x1 x2 (p.1.emb x)
  | 0, _, p, hp => absurd hp (by rw [pb_k0_t1]; exact List.not_mem_nil)
  | n + 1, hn, p, hp => by
    rw [pb_k0_t1_succ (F := Bits) Variants.none c none i arg2 harg2 arg3 harg3 arg4 harg4 arg5 harg5 (BitVec.ofNat 32 (i 1).val)
      (harg2.unread x0) (harg3.unread x1) (harg4.unread x2) ⟨n, hn⟩] at hp
    rcases List.mem_append.mp hp with h | h
    · exact trip_agrees c i arg2 harg2 arg3 harg3 arg4 harg4 arg5 harg5 x0 x1 x2 ⟨n, hn⟩ p h
    · exact pieces_agree c i arg2 harg2 arg3 harg3 arg4 harg4 arg5 harg5 x0 x1 x2 n (Nat.le_of_succ_le hn) p h

/-- The block the body leaves holds the block's entries. -/
theorem out_eq (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Bits S128x8192 .i8) (x1 : Vec Bits S64x8192 .bf16) (x2 : Vec Bits S64x8192 .bf16) (y : S2x128x8192.Idx) :
    out0_A_3 c i arg2 harg2 arg3 harg3 arg4 harg4 arg5 harg5 x0 x1 x2 y = block (F := Bits) (i 1) x0 x1 x2 y := by
  have hc := cover0_A_3 c i arg2 harg2 arg3 harg3 arg4 harg4 arg5 harg5 x0 x1 x2 y
  unfold out0_A_3
  refine View.read_writes_apply_of_pieces _ _ _ _ ?_ y hc
  unfold kernelRun0_A
  dsimp only
  exact pieces_agree c i arg2 harg2 arg3 harg3 arg4 harg4 arg5 harg5 x0 x1 x2 k0_t1_loop.trips (Nat.le_refl _)

variable (m : (ℓ : Loc nD τ sig) → Buf (Elt Bits) ℓ) (ρ : Dev nD → PrngReg)

/-- The block indices of the four windows: bytes at (group, columns), scales and zero points at (0, columns), the result at
    (0, group, columns). -/
theorem index0 : ∀ t : Fin cfg0.N, win0_0.index t = ![(grid0.coords t 1).val, (grid0.coords t 0).val] :=
  (by decide +kernel : ∀ t : Fin grid0.N, win0_0.index t = ![(grid0.coords t 1).val, (grid0.coords t 0).val])
theorem index1 : ∀ t : Fin cfg0.N, win0_1.index t = ![0, (grid0.coords t 0).val] :=
  (by decide +kernel : ∀ t : Fin grid0.N, win0_1.index t = ![0, (grid0.coords t 0).val])
theorem index2 : ∀ t : Fin cfg0.N, win0_2.index t = ![0, (grid0.coords t 0).val] :=
  (by decide +kernel : ∀ t : Fin grid0.N, win0_2.index t = ![0, (grid0.coords t 0).val])
theorem index3 : ∀ t : Fin cfg0.N, win0_3.index t = ![0, (grid0.coords t 1).val, (grid0.coords t 0).val] :=
  (by decide +kernel : ∀ t : Fin grid0.N, win0_3.index t = ![0, (grid0.coords t 1).val, (grid0.coords t 0).val])

/-- The block of bytes read at a point, at an index: the array's byte there. -/
theorem iblk0_apply (c : Dev nD) (t : Fin cfg0.N) (y : S128x8192.Idx) (y' : S4096x32768.Idx)
    (h0 : (y' 0).val = (grid0.coords t 1).val * 128 + (y 0).val) (h1 : (y' 1).val = (grid0.coords t 0).val * 8192 + (y 1).val) :
    (iblk m c 0 t : Vec Bits S128x8192 .i8) y = (m ((c : Thread nD τ).loc main_arg0) : S4096x32768.Idx → BitVec 8) y' := by
  have e0 : win0_0.index t 0 = (grid0.coords t 1).val := by rw [index0]; rfl
  have e1 : win0_0.index t 1 = (grid0.coords t 0).val := by rw [index0]; rfl
  unfold iblk
  rw [View.read_apply]
  show V m c main_arg0 _ = m (c.tc.loc main_arg0) _
  unfold V
  congr 1
  funext a
  apply Fin.ext
  match a with
  | ⟨0, _⟩ => show win0_0.index t 0 * 128 + 1 * (y 0).val = (y' 0).val; rw [e0, h0]; omega
  | ⟨1, _⟩ => show win0_0.index t 1 * 8192 + 1 * (y 1).val = (y' 1).val; rw [e1, h1]; omega

/-- The block of scales read at a point, at an index: the array's scale there. -/
theorem iblk1_apply (c : Dev nD) (t : Fin cfg0.N) (y : S64x8192.Idx) (y' : S64x32768.Idx)
    (h0 : (y' 0).val = (y 0).val) (h1 : (y' 1).val = (grid0.coords t 0).val * 8192 + (y 1).val) :
    (iblk m c 1 t : Vec Bits S64x8192 .bf16) y = (m ((c : Thread nD τ).loc main_arg1) : S64x32768.Idx → Bits .bf16) y' := by
  have e0 : win0_1.index t 0 = 0 := by rw [index1]; rfl
  have e1 : win0_1.index t 1 = (grid0.coords t 0).val := by rw [index1]; rfl
  unfold iblk
  rw [View.read_apply]
  show V m c main_arg1 _ = m (c.tc.loc main_arg1) _
  unfold V
  congr 1
  funext a
  apply Fin.ext
  match a with
  | ⟨0, _⟩ => show win0_1.index t 0 * 64 + 1 * (y 0).val = (y' 0).val; rw [e0, h0]; omega
  | ⟨1, _⟩ => show win0_1.index t 1 * 8192 + 1 * (y 1).val = (y' 1).val; rw [e1, h1]; omega

/-- The block of zero points read at a point, at an index: the array's zero point there. -/
theorem iblk2_apply (c : Dev nD) (t : Fin cfg0.N) (y : S64x8192.Idx) (y' : S64x32768.Idx)
    (h0 : (y' 0).val = (y 0).val) (h1 : (y' 1).val = (grid0.coords t 0).val * 8192 + (y 1).val) :
    (iblk m c 2 t : Vec Bits S64x8192 .bf16) y = (m ((c : Thread nD τ).loc main_arg2) : S64x32768.Idx → Bits .bf16) y' := by
  have e0 : win0_2.index t 0 = 0 := by rw [index2]; rfl
  have e1 : win0_2.index t 1 = (grid0.coords t 0).val := by rw [index2]; rfl
  unfold iblk
  rw [View.read_apply]
  show V m c main_arg2 _ = m (c.tc.loc main_arg2) _
  unfold V
  congr 1
  funext a
  apply Fin.ext
  match a with
  | ⟨0, _⟩ => show win0_2.index t 0 * 64 + 1 * (y 0).val = (y' 0).val; rw [e0, h0]; omega
  | ⟨1, _⟩ => show win0_2.index t 1 * 8192 + 1 * (y 1).val = (y' 1).val; rw [e1, h1]; omega

/-- The array of the two halves, of the launch contents of the arguments. -/
abbrev wholeOf (c : Dev nD) : S2x4096x32768.Idx → Bits .bf16 :=
  whole (F := Bits) (m ((c : Thread nD τ).loc main_arg0)) (m ((c : Thread nD τ).loc main_arg1)) (m ((c : Thread nD τ).loc main_arg2))

/-- After the region the call's result array holds it. -/
theorem arr_eq (c : Dev nD) : (dats m 0 c).arrAt 3 cfg0.N = wholeOf m c := by
  refine (dats m 0 c).arrAt_eq_of_covers 3 _ (by decide +kernel) fun t hf y => ?_
  have e0 : win0_3.index t 0 = 0 := by rw [index3]; rfl
  have e1 : win0_3.index t 1 = (grid0.coords t 1).val := by rw [index3]; rfl
  have e2 : win0_3.index t 2 = (grid0.coords t 0).val := by rw [index3]; rfl
  rw [after0_3]
  show outsAt0 m c t y = _
  unfold outsAt0
  refine (out_eq c _ _ _ _ _ _ _ _ _ _ _ _ y).trans ?_
  refine block_eq_whole (F := Bits) (grid0.coords t 1) (grid0.coords t 0).val _ _ _ _ _ _
    (fun y y' => iblk0_apply m c t y y') (fun y y' => iblk1_apply m c t y y') (fun y y' => iblk2_apply m c t y y') y _ ?_ ?_ ?_
  · show win0_3.index t 0 * 2 + 1 * (y 0).val = (y 0).val; rw [e0]; omega
  · show win0_3.index t 1 * 128 + 1 * (y 1).val = _; rw [e1]; omega
  · show win0_3.index t 2 * 8192 + 1 * (y 2).val = _; rw [e2]; omega

/-- The result after the last line: the array reshaped. -/
theorem tail_eq (c : Dev nD) : Pipeline.afterTail₀ cfgs (dats m) 0 (V0 m) [hostOps1] c main_v1
    = shapeCast S8192x32768 (wholeOf m c) shapeCasts_S2x4096x32768_S8192x32768 := by
  unfold Pipeline.afterTail₀
  show StableHlo.after hostOps1 _ _ = _
  unfold hostOps1
  after_results
  rw [← arr_eq m c]
  exact congrArg (fun x => shapeCast S8192x32768 x shapeCasts_S2x4096x32768_S8192x32768)
    (Pipeline.withArrays_arr spec0 launch0.win.arr_inj c (V0 m c) (fun w => (dats m 0 c).arrAt w cfg0.N) 3)

/-- The kernel's run ends with its result holding the array reshaped, and the arguments as launched. -/
theorem run : θ_run defs (onTc (τ := τ) (main (F := Bits))) (s₀ m ρ) fun r => ∀ c : Dev nD,
      r.2.mem ((c : Thread nD τ).loc main_v1) = shapeCast S8192x32768 (wholeOf m c) shapeCasts_S2x4096x32768_S8192x32768
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Deq.Kernel
-- ==== Proof.Deq.MovedTrip.lean ====
/- What one trip of the restated kernel's loop stores, on bit patterns: four slabs of 32 rows in each half of the block, every one of them a slab of the
   block's entries. -/
module

public import proofs.«01_k».proof.Proof.Deq.Spec
public import proofs.«01_k».proof.Proof.Deq.Parity
public import proofs.«01_k».proof.Proof.Gen.Moved.Frame

@[expose] public section

set_option maxRecDepth 16384

noncomputable section

namespace Cert.Deq.Moved

open Idealize.ShloMosaic Idealize.ShloMosaic.TcCoe Idealize.ShloMosaic.Tactic
open Cert.Moved Cert.Moved.Gen

/-- The row of a pair that group `g` takes. -/
abbrev odd (g : Fin 32) : Fin 2 := ⟨g.val % 2, Nat.mod_lt _ (by decide)⟩

/-- The condition that row number `n + g` is the even row of its pair. -/
abbrev even (n : BitVec 32) (g : Fin 32) : BitVec 1 := Scalar.cmpi .eq (parity (Scalar.addi n (BitVec.ofNat 32 g.val))) 0#32

/-- The scales of half 0, spread over 32 rows from the pair loaded. -/
abbrev scale0 (g : Fin 32) (raw : Vec Bits S2x512 .bf16) : FVec Bits S32x512 .bf16 :=
  k0_pay6 (F := Bits) (k0_pay4 (k0_pay3 (BitVec.ofNat 32 g.val) raw))
/-- The zero points of half 0. -/
abbrev zero0 (g : Fin 32) (raw : Vec Bits S2x512 .bf16) : FVec Bits S32x512 .bf16 :=
  k0_pay7 (F := Bits) (k0_pay5 (Scalar.addi 0#32 (BitVec.ofNat 32 g.val)) raw) 16#32
/-- The scales of half 1. -/
abbrev scale1 (g : Fin 32) (raw : Vec Bits S2x512 .bf16) : FVec Bits S32x512 .bf16 :=
  k0_pay15 (F := Bits) (k0_pay11 (k0_pay8 raw) (even 32#32 g) (k0_pay9 raw) k0_pay10)
/-- The zero points of half 1. -/
abbrev zero1 (g : Fin 32) (raw : Vec Bits S2x512 .bf16) : FVec Bits S32x512 .bf16 :=
  k0_pay16 (F := Bits) (even 32#32 g) (k0_pay13 raw) (k0_pay14 raw)

/-- A pair loaded, as its words, eight times. -/
def words (raw : Vec Bits S2x512 .bf16) : IVec S8x512 32 :=
  have v : IVec S1x512 32 := bitcast S1x512 32 (bitcastToInt (F := Bits) (φ := .bf16) raw) bitcasts_S2x512_w16_S1x512_w32
  concatenate S8x512 0 [⟨S1x512, v⟩, ⟨S1x512, v⟩, ⟨S1x512, v⟩, ⟨S1x512, v⟩, ⟨S1x512, v⟩, ⟨S1x512, v⟩, ⟨S1x512, v⟩, ⟨S1x512, v⟩]
    concatenates_S1x512_S1x512_S1x512_S1x512_S1x512_S1x512_S1x512_S1x512_S8x512_d0

/-- The half of each word that row number `n + g` takes, chosen by its parity. -/
def half (n : BitVec 32) (g : Fin 32) (raw : Vec Bits S2x512 .bf16) : IVec S8x512 32 :=
  Scalar.select (even n g) (andi (words raw) (broadcast S8x512 65535#32)) (shrui (words raw) (broadcast S8x512 16#32))

/-- The chosen halves of the trip are these. -/
theorem pay3_eq (g : Fin 32) (raw : Vec Bits S2x512 .bf16) : k0_pay3 (F := Bits) (BitVec.ofNat 32 g.val) raw = half 0#32 g raw := by
  unfold k0_pay3 half even parity words
  rfl
theorem pay5_eq (g : Fin 32) (raw : Vec Bits S2x512 .bf16) : k0_pay5 (F := Bits) (Scalar.addi 0#32 (BitVec.ofNat 32 g.val)) raw = half 0#32 g raw := by
  unfold k0_pay5 half even parity words
  rfl
theorem pay9_eq (g : Fin 32) (raw : Vec Bits S2x512 .bf16) :
    Scalar.select (even 32#32 g) (k0_pay9 (F := Bits) raw) (shrui (k0_pay8 (F := Bits) raw) k0_pay10) = half 32#32 g raw := by
  unfold k0_pay9 k0_pay8 k0_pay10 half words
  rfl
theorem pay13_eq (g : Fin 32) (raw : Vec Bits S2x512 .bf16) :
    Scalar.select (even 32#32 g) (k0_pay13 (F := Bits) raw) (k0_pay14 (F := Bits) raw) = half 32#32 g raw := by
  unfold k0_pay13 k0_pay14 k0_pay12 half words
  rfl

/-- The half words doubled, read as bf16 rows and repeated hold, in every row, the pair's row of the parity of `g`. -/
theorem half_apply (h : Fin 2) (g : Fin 32) (raw : Vec Bits S2x512 .bf16) (i : S32x512.Idx) (y : IVec S8x512 32)
    (hy : y = half (BitVec.ofNat 32 (32 * h.val)) g raw) :
    concatenate S32x512 0
      [⟨S16x512, bitcastToFloat (F := Bits) .bf16 (bitcast S16x512 16 (ori y (shli y (broadcast S8x512 16#32))) bitcasts_S8x512_w32_S16x512_w16)⟩,
        ⟨S16x512, bitcastToFloat (F := Bits) .bf16 (bitcast S16x512 16 (ori y (shli y (broadcast S8x512 16#32))) bitcasts_S8x512_w32_S16x512_w16)⟩]
      concatenates_S16x512_S16x512_S32x512_d0 i = raw (ValueIdx.ix2 (odd g) (i 1)) := by
  have e := spread_row_words (bitcastToInt (F := Bits) (φ := .bf16) raw) (odd g) (even (BitVec.ofNat 32 (32 * h.val)) g)
    (parity_cond h g) bitcasts_S2x512_w16_S1x512_w32 concatenates_S1x512_S1x512_S1x512_S1x512_S1x512_S1x512_S1x512_S1x512_S8x512_d0
    bitcasts_S8x512_w32_S16x512_w16 concatenates_S16x512_S16x512_S32x512_d0 y (words raw) rfl hy i
  exact e

/-- Each of the four holds, in every row, the pair's row of the parity of `g`. -/
theorem scale0_apply (g : Fin 32) (raw : Vec Bits S2x512 .bf16) (i : S32x512.Idx) :
    scale0 g raw i = raw (ValueIdx.ix2 (odd g) (i 1)) := by
  unfold scale0 k0_pay6 k0_pay4
  exact half_apply 0 g raw i _ (pay3_eq g raw)
theorem zero0_apply (g : Fin 32) (raw : Vec Bits S2x512 .bf16) (i : S32x512.Idx) :
    zero0 g raw i = raw (ValueIdx.ix2 (odd g) (i 1)) := by
  unfold zero0 k0_pay7
  exact half_apply 0 g raw i _ (pay5_eq g raw)
theorem scale1_apply (g : Fin 32) (raw : Vec Bits S2x512 .bf16) (i : S32x512.Idx) :
    scale1 g raw i = raw (ValueIdx.ix2 (odd g) (i 1)) := by
  unfold scale1 k0_pay15 k0_pay11
  exact half_apply 1 g raw i _ (pay9_eq g raw)
theorem zero1_apply (g : Fin 32) (raw : Vec Bits S2x512 .bf16) (i : S32x512.Idx) :
    zero1 g raw i = raw (ValueIdx.ix2 (odd g) (i 1)) := by
  unfold zero1 k0_pay16
  exact half_apply 1 g raw i _ (pay13_eq g raw)

/-- A stored slab of half 0, at an index: the entry of the low four bits of the byte there. -/
theorem low_slab (g : Fin 32) (s z : Vec Bits S2x512 .bf16) (w : Vec Bits S32x512 .i8) (x : S1x32x512.Idx) :
    k0_pay18 (F := Bits) (scale0 g s) (zero0 g z) w x
      = entry 0 (w (ValueIdx.ix2 (x 1) (x 2))) (z (ValueIdx.ix2 (odd g) (x 2))) (s (ValueIdx.ix2 (odd g) (x 2))) := by
  unfold k0_pay18
  exact slab_pay (F := Bits) 0 (odd g) w _ (low_codes w bitcasts_S32x512_w8_S8x512_w32 bitcasts_S8x512_w32_S32x512_w8)
    (zero0 g z) (scale0 g s) z s (zero0_apply g z) (scale0_apply g s) _ x

/-- A stored slab of half 1, at an index: the entry of the high four bits of the byte there. -/
theorem high_slab (g : Fin 32) (s z : Vec Bits S2x512 .bf16) (w : Vec Bits S32x512 .i8) (x : S1x32x512.Idx) :
    k0_pay27 (F := Bits) (scale1 g s) (zero1 g z) w x
      = entry 1 (w (ValueIdx.ix2 (x 1) (x 2))) (z (ValueIdx.ix2 (odd g) (x 2))) (s (ValueIdx.ix2 (odd g) (x 2))) := by
  unfold k0_pay27
  exact slab_pay (F := Bits) 1 (odd g) w _ (high_codes w bitcasts_S32x512_w8_S8x512_w32 bitcasts_S8x512_w32_S32x512_w8)
    (zero1 g z) (scale1 g s) z s (zero1_apply g z) (scale1_apply g s) _ x

/-- The pairs of scale rows loaded: those that hold row `32 h + g`, at the trip's columns. -/
theorem off1_eq : ∀ (h : Fin 2) (i : grid0.Coords) (k : Fin k0_t1_loop.trips), k0_off1 i k (BitVec.ofNat 32 (32 * h.val))
    = ![2 * ((32 * h.val + (i 1).val) / 2), 512 * k.val] := by decide +kernel

/-- The pair of rows a trip loads of the scales (or zero points) for half `h`. -/
abbrev pairOf (h : Fin 2) (i : grid0.Coords) (k : Fin k0_t1_loop.trips) (a : Memref sig .tc .vmem S64x8192 .bf16)
    (X : BufTy.Contents (Elt Bits) a.view.ty) : Vec Bits S2x512 .bf16 :=
  View.readAt (Elt Bits) a.view (Rect.unit (s := S64x8192) (k0_off1 i k (BitVec.ofNat 32 (32 * h.val))) S2x512.size (k0_off1_inb i k h)).toLoadRect X

/-- The pieces one trip writes, last first. -/
theorem trip_list (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole) (X2 : BufTy.Contents (Elt Bits) arg2.view.ty)
    (X3 : BufTy.Contents (Elt Bits) arg3.view.ty) (X4 : BufTy.Contents (Elt Bits) arg4.view.ty) (k : Fin k0_t1_loop.trips) :
    tripL_k0_t1 (F := Bits) Variants.none c none i arg2 harg2 arg3 harg3 arg4 harg4 arg5 harg5 (BitVec.ofNat 32 (i 1).val) X2 X3 X4 k =
      [⟨Rect.unit (s := S2x128x8192) (k0_off13 k) S1x32x512.size (k0_off13_inb k), k0_pay2 (F := Bits) (scale1 (i 1) (pairOf 1 i k arg3 X3)) (zero1 (i 1) (pairOf 1 i k arg4 X4)) (k0_pay28 (View.readAt (Elt Bits) arg2.view (Rect.unit (s := S128x8192) (k0_off11 k) S32x512.size (k0_off11_inb k)).toLoadRect X2))⟩,
        ⟨Rect.unit (s := S2x128x8192) (k0_off12 k) S1x32x512.size (k0_off12_inb k), k0_pay1 (F := Bits) (scale0 (i 1) (pairOf 0 i k arg3 X3)) (zero0 (i 1) (pairOf 0 i k arg4 X4)) (k0_pay29 (View.readAt (Elt Bits) arg2.view (Rect.unit (s := S128x8192) (k0_off11 k) S32x512.size (k0_off11_inb k)).toLoadRect X2))⟩,
        ⟨Rect.unit (s := S2x128x8192) (k0_off10 k) S1x32x512.size (k0_off10_inb k), k0_pay27 (F := Bits) (scale1 (i 1) (pairOf 1 i k arg3 X3)) (zero1 (i 1) (pairOf 1 i k arg4 X4)) (View.readAt (Elt Bits) arg2.view (Rect.unit (s := S128x8192) (k0_off8 k) S32x512.size (k0_off8_inb k)).toLoadRect X2)⟩,
        ⟨Rect.unit (s := S2x128x8192) (k0_off9 k) S1x32x512.size (k0_off9_inb k), k0_pay26 (F := Bits) (scale0 (i 1) (pairOf 0 i k arg3 X3)) (zero0 (i 1) (pairOf 0 i k arg4 X4)) (View.readAt (Elt Bits) arg2.view (Rect.unit (s := S128x8192) (k0_off8 k) S32x512.size (k0_off8_inb k)).toLoadRect X2)⟩,
        ⟨Rect.unit (s := S2x128x8192) (k0_off7 k) S1x32x512.size (k0_off7_inb k), k0_pay24 (F := Bits) (scale1 (i 1) (pairOf 1 i k arg3 X3)) (zero1 (i 1) (pairOf 1 i k arg4 X4)) (k0_pay21 (View.readAt (Elt Bits) arg2.view (Rect.unit (s := S128x8192) (k0_off5 k) S32x512.size (k0_off5_inb k)).toLoadRect X2))⟩,
        ⟨Rect.unit (s := S2x128x8192) (k0_off6 k) S1x32x512.size (k0_off6_inb k), k0_pay23 (F := Bits) (k0_pay22 (scale0 (i 1) (pairOf 0 i k arg3 X3)) (zero0 (i 1) (pairOf 0 i k arg4 X4)) (View.readAt (Elt Bits) arg2.view (Rect.unit (s := S128x8192) (k0_off5 k) S32x512.size (k0_off5_inb k)).toLoadRect X2))⟩,
        ⟨Rect.unit (s := S2x128x8192) (k0_off4 k) S1x32x512.size (k0_off4_inb k), k0_pay19 (F := Bits) (k0_pay11 (k0_pay8 (pairOf 1 i k arg3 X3)) (even 32#32 (i 1)) (k0_pay9 (pairOf 1 i k arg3 X3)) k0_pay10) (even 32#32 (i 1)) (k0_pay13 (pairOf 1 i k arg4 X4)) (k0_pay14 (pairOf 1 i k arg4 X4)) (View.readAt (Elt Bits) arg2.view (Rect.unit (s := S128x8192) (k0_off2 k) S32x512.size (k0_off2_inb k)).toLoadRect X2)⟩,
        ⟨Rect.unit (s := S2x128x8192) (k0_off3 k) S1x32x512.size (k0_off3_inb k), k0_pay18 (F := Bits) (scale0 (i 1) (pairOf 0 i k arg3 X3)) (zero0 (i 1) (pairOf 0 i k arg4 X4)) (View.readAt (Elt Bits) arg2.view (Rect.unit (s := S128x8192) (k0_off2 k) S32x512.size (k0_off2_inb k)).toLoadRect X2)⟩] := by
  unfold tripL_k0_t1 trip_k0_t1
  dsimp only
  sl_unfold_words
  rfl

/-- The slabs of half 0 are one function of the scales, the zero points and the bytes, however the trip's lines are grouped; -/
theorem pay1_eq (s z : FVec Bits S32x512 .bf16) (w : Vec Bits S32x512 .i8) : k0_pay1 (F := Bits) s z (k0_pay29 (F := Bits) w) = k0_pay18 s z w := rfl
theorem pay23_eq (s z : FVec Bits S32x512 .bf16) (w : Vec Bits S32x512 .i8) : k0_pay23 (F := Bits) (k0_pay22 s z w) = k0_pay18 s z w := rfl
theorem pay26_eq (s z : FVec Bits S32x512 .bf16) (w : Vec Bits S32x512 .i8) : k0_pay26 (F := Bits) s z w = k0_pay18 s z w := rfl
/-- and so are those of half 1. -/
theorem pay2_eq (s z : FVec Bits S32x512 .bf16) (w : Vec Bits S32x512 .i8) : k0_pay2 (F := Bits) s z (k0_pay28 (F := Bits) w) = k0_pay27 s z w := rfl
theorem pay24_eq (s z : FVec Bits S32x512 .bf16) (w : Vec Bits S32x512 .i8) : k0_pay24 (F := Bits) s z (k0_pay21 (F := Bits) w) = k0_pay27 s z w := rfl
theorem pay19_eq (a : FVec Bits S16x512 .bf16) (e : BitVec 1) (b d : IVec S8x512 32) (w : Vec Bits S32x512 .i8) :
    k0_pay19 (F := Bits) a e b d w = k0_pay27 (k0_pay15 a) (k0_pay16 e b d) w := rfl

/-- A slab of half 0 (then of half 1) computed from what is loaded of the three blocks agrees with the block's entries where it is stored. -/
theorem low_piece (g : Fin 32) (r k : Nat) (x0 : Vec Bits S128x8192 .i8) (x1 x2 : Vec Bits S64x8192 .bf16) (offw offs : Fin 2 → Nat) (offo : Fin 3 → Nat)
    (inbw : ∀ a, offw a + S32x512.size a ≤ S128x8192.size a) (inbs : ∀ a, offs a + S2x512.size a ≤ S64x8192.size a)
    (inbo : ∀ a, offo a + S1x32x512.size a ≤ S2x128x8192.size a) (hw : offw = ![r, 512 * k])
    (hs : offs = ![2 * ((32 * 0 + g.val) / 2), 512 * k]) (ho : offo = ![0, r, 512 * k]) (x : S1x32x512.Idx) :
    k0_pay18 (F := Bits) (scale0 g (View.ld (Val := Elt Bits) (e' := .bf16) x1 (Rect.unit (s := S64x8192) offs S2x512.size inbs)))
        (zero0 g (View.ld (Val := Elt Bits) (e' := .bf16) x2 (Rect.unit (s := S64x8192) offs S2x512.size inbs)))
        (View.ld (Val := Elt Bits) (e' := .i8) x0 (Rect.unit (s := S128x8192) offw S32x512.size inbw)) x
      = block (F := Bits) g x0 x1 x2 ((Rect.unit (s := S2x128x8192) offo S1x32x512.size inbo).emb x) :=
  slab_block (F := Bits) 0 g r k x0 x1 x2 _ offw offs offo inbw inbs inbo hw hs ho
    (fun x => low_slab g (View.ld (Val := Elt Bits) (e' := .bf16) x1 (Rect.unit (s := S64x8192) offs S2x512.size inbs))
        (View.ld (Val := Elt Bits) (e' := .bf16) x2 (Rect.unit (s := S64x8192) offs S2x512.size inbs))
        (View.ld (Val := Elt Bits) (e' := .i8) x0 (Rect.unit (s := S128x8192) offw S32x512.size inbw)) x) x

theorem high_piece (g : Fin 32) (r k : Nat) (x0 : Vec Bits S128x8192 .i8) (x1 x2 : Vec Bits S64x8192 .bf16) (offw offs : Fin 2 → Nat) (offo : Fin 3 → Nat)
    (inbw : ∀ a, offw a + S32x512.size a ≤ S128x8192.size a) (inbs : ∀ a, offs a + S2x512.size a ≤ S64x8192.size a)
    (inbo : ∀ a, offo a + S1x32x512.size a ≤ S2x128x8192.size a) (hw : offw = ![r, 512 * k])
    (hs : offs = ![2 * ((32 * 1 + g.val) / 2), 512 * k]) (ho : offo = ![1, r, 512 * k]) (x : S1x32x512.Idx) :
    k0_pay27 (F := Bits) (scale1 g (View.ld (Val := Elt Bits) (e' := .bf16) x1 (Rect.unit (s := S64x8192) offs S2x512.size inbs)))
        (zero1 g (View.ld (Val := Elt Bits) (e' := .bf16) x2 (Rect.unit (s := S64x8192) offs S2x512.size inbs)))
        (View.ld (Val := Elt Bits) (e' := .i8) x0 (Rect.unit (s := S128x8192) offw S32x512.size inbw)) x
      = block (F := Bits) g x0 x1 x2 ((Rect.unit (s := S2x128x8192) offo S1x32x512.size inbo).emb x) :=
  slab_block (F := Bits) 1 g r k x0 x1 x2 _ offw offs offo inbw inbs inbo hw hs ho
    (fun x => high_slab g (View.ld (Val := Elt Bits) (e' := .bf16) x1 (Rect.unit (s := S64x8192) offs S2x512.size inbs))
        (View.ld (Val := Elt Bits) (e' := .bf16) x2 (Rect.unit (s := S64x8192) offs S2x512.size inbs))
        (View.ld (Val := Elt Bits) (e' := .i8) x0 (Rect.unit (s := S128x8192) offw S32x512.size inbw)) x) x

/-- Every slab one trip stores agrees with the block's entries where it is placed. -/
theorem trip_agrees (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Bits S128x8192 .i8) (x1 : Vec Bits S64x8192 .bf16) (x2 : Vec Bits S64x8192 .bf16) (k : Fin k0_t1_loop.trips) :
    ∀ p ∈ tripL_k0_t1 (F := Bits) Variants.none c none i arg2 harg2 arg3 harg3 arg4 harg4 arg5 harg5 (BitVec.ofNat 32 (i 1).val)
      (harg2.unread x0) (harg3.unread x1) (harg4.unread x2) k, ∀ x, p.2 x = block (F := Bits) (i 1) x0 x1 x2 (p.1.emb x) := by
  rw [trip_list]
  unfold pairOf
  rw [View.readAt_eq_ld, View.readAt_eq_ld, View.readAt_eq_ld, View.readAt_eq_ld, View.readAt_eq_ld, View.readAt_eq_ld, View.readAt_eq_ld, View.readAt_eq_ld,
    harg2.read_unread, harg3.read_unread, harg4.read_unread, pay1_eq, pay23_eq, pay26_eq, pay2_eq, pay24_eq, pay19_eq]
  intro p hp
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  · exact absurd hp List.not_mem_nil
  all_goals intro x
  · exact high_piece (i 1) 96 k.val x0 x1 x2 (k0_off11 k) (k0_off1 i k (BitVec.ofNat 32 (32 * (Fin.val (n := 2) 1)))) (k0_off13 k)
      (k0_off11_inb k) (k0_off1_inb i k 1) (k0_off13_inb k) (k0_off11_eq k) (off1_eq 1 i k) (k0_off13_eq k) x
  · exact low_piece (i 1) 96 k.val x0 x1 x2 (k0_off11 k) (k0_off1 i k (BitVec.ofNat 32 (32 * (Fin.val (n := 2) 0)))) (k0_off12 k)
      (k0_off11_inb k) (k0_off1_inb i k 0) (k0_off12_inb k) (k0_off11_eq k) (off1_eq 0 i k) (k0_off12_eq k) x
  · exact high_piece (i 1) 64 k.val x0 x1 x2 (k0_off8 k) (k0_off1 i k (BitVec.ofNat 32 (32 * (Fin.val (n := 2) 1)))) (k0_off10 k)
      (k0_off8_inb k) (k0_off1_inb i k 1) (k0_off10_inb k) (k0_off8_eq k) (off1_eq 1 i k) (k0_off10_eq k) x
  · exact low_piece (i 1) 64 k.val x0 x1 x2 (k0_off8 k) (k0_off1 i k (BitVec.ofNat 32 (32 * (Fin.val (n := 2) 0)))) (k0_off9 k)
      (k0_off8_inb k) (k0_off1_inb i k 0) (k0_off9_inb k) (k0_off8_eq k) (off1_eq 0 i k) (k0_off9_eq k) x
  · exact high_piece (i 1) 32 k.val x0 x1 x2 (k0_off5 k) (k0_off1 i k (BitVec.ofNat 32 (32 * (Fin.val (n := 2) 1)))) (k0_off7 k)
      (k0_off5_inb k) (k0_off1_inb i k 1) (k0_off7_inb k) (k0_off5_eq k) (off1_eq 1 i k) (k0_off7_eq k) x
  · exact low_piece (i 1) 32 k.val x0 x1 x2 (k0_off5 k) (k0_off1 i k (BitVec.ofNat 32 (32 * (Fin.val (n := 2) 0)))) (k0_off6 k)
      (k0_off5_inb k) (k0_off1_inb i k 0) (k0_off6_inb k) (k0_off5_eq k) (off1_eq 0 i k) (k0_off6_eq k) x
  · exact high_piece (i 1) 0 k.val x0 x1 x2 (k0_off2 k) (k0_off1 i k (BitVec.ofNat 32 (32 * (Fin.val (n := 2) 1)))) (k0_off4 k)
      (k0_off2_inb k) (k0_off1_inb i k 1) (k0_off4_inb k) (k0_off2_eq k) (off1_eq 1 i k) (k0_off4_eq k) x
  · exact low_piece (i 1) 0 k.val x0 x1 x2 (k0_off2 k) (k0_off1 i k (BitVec.ofNat 32 (32 * (Fin.val (n := 2) 0)))) (k0_off3 k)
      (k0_off2_inb k) (k0_off1_inb i k 0) (k0_off3_inb k) (k0_off2_eq k) (off1_eq 0 i k) (k0_off3_eq k) x

end Cert.Deq.Moved
-- ==== Proof.Deq.MovedRun.lean ====
/- What the restated kernel's run leaves: the loop's pieces make up the block, the blocks make up the array, and the reshape after the call
   puts the array's two halves one below the other. -/
module

public import proofs.«01_k».proof.Proof.Deq.MovedTrip
public import proofs.«01_k».proof.Proof.Deq.Whole
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.Deq.Moved

open Idealize.ShloMosaic Idealize.ShloMosaic.TcCoe Idealize.ShloMosaic.Tactic Idealize.SL.Sem
open Idealize.ShloMosaic.Pipeline (Dat)
open Cert.Moved Cert.Moved.Gen

/-- Every slab the first `n` trips store agrees with the block's entries where it is placed. -/
theorem pieces_agree (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Bits S128x8192 .i8) (x1 : Vec Bits S64x8192 .bf16) (x2 : Vec Bits S64x8192 .bf16) :
    ∀ n : Nat, n ≤ k0_t1_loop.trips →
    ∀ p ∈ pb_k0_t1 (F := Bits) Variants.none c none i arg2 harg2 arg3 harg3 arg4 harg4 arg5 harg5 (BitVec.ofNat 32 (i 1).val)
      (harg2.unread x0) (harg3.unread x1) (harg4.unread x2) n, ∀ x, p.2 x = block (F := Bits) (i 1) x0 x1 x2 (p.1.emb x)
  | 0, _, p, hp => absurd hp (by rw [pb_k0_t1]; exact List.not_mem_nil)
  | n + 1, hn, p, hp => by
    rw [pb_k0_t1_succ (F := Bits) Variants.none c none i arg2 harg2 arg3 harg3 arg4 harg4 arg5 harg5 (BitVec.ofNat 32 (i 1).val)
      (harg2.unread x0) (harg3.unread x1) (harg4.unread x2) ⟨n, hn⟩] at hp
    rcases List.mem_append.mp hp with h | h
    · exact trip_agrees c i arg2 harg2 arg3 harg3 arg4 harg4 arg5 harg5 x0 x1 x2 ⟨n, hn⟩ p h
    · exact pieces_agree c i arg2 harg2 arg3 harg3 arg4 harg4 arg5 harg5 x0 x1 x2 n (Nat.le_of_succ_le hn) p h

/-- The block the body leaves holds the block's entries. -/
theorem out_eq (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Bits S128x8192 .i8) (x1 : Vec Bits S64x8192 .bf16) (x2 : Vec Bits S64x8192 .bf16) (y : S2x128x8192.Idx) :
    out0_A_3 c i arg2 harg2 arg3 harg3 arg4 harg4 arg5 harg5 x0 x1 x2 y = block (F := Bits) (i 1) x0 x1 x2 y := by
  have hc := cover0_A_3 c i arg2 harg2 arg3 harg3 arg4 harg4 arg5 harg5 x0 x1 x2 y
  unfold out0_A_3
  refine View.read_writes_apply_of_pieces _ _ _ _ ?_ y hc
  unfold kernelRun0_A
  dsimp only
  exact pieces_agree c i arg2 harg2 arg3 harg3 arg4 harg4 arg5 harg5 x0 x1 x2 k0_t1_loop.trips (Nat.le_refl _)

variable (m : (ℓ : Loc nD τ sig) → Buf (Elt Bits) ℓ) (ρ : Dev nD → PrngReg)

/-- The block indices of the four windows: bytes at (group, columns), scales and zero points at (0, columns), the result at
    (0, group, columns). -/
theorem index0 : ∀ t : Fin cfg0.N, win0_0.index t = ![(grid0.coords t 1).val, (grid0.coords t 0).val] :=
  (by decide +kernel : ∀ t : Fin grid0.N, win0_0.index t = ![(grid0.coords t 1).val, (grid0.coords t 0).val])
theorem index1 : ∀ t : Fin cfg0.N, win0_1.index t = ![0, (grid0.coords t 0).val] :=
  (by decide +kernel : ∀ t : Fin grid0.N, win0_1.index t = ![0, (grid0.coords t 0).val])
theorem index2 : ∀ t : Fin cfg0.N, win0_2.index t = ![0, (grid0.coords t 0).val] :=
  (by decide +kernel : ∀ t : Fin grid0.N, win0_2.index t = ![0, (grid0.coords t 0).val])
theorem index3 : ∀ t : Fin cfg0.N, win0_3.index t = ![0, (grid0.coords t 1).val, (grid0.coords t 0).val] :=
  (by decide +kernel : ∀ t : Fin grid0.N, win0_3.index t = ![0, (grid0.coords t 1).val, (grid0.coords t 0).val])

/-- The block of bytes read at a point, at an index: the array's byte there. -/
theorem iblk0_apply (c : Dev nD) (t : Fin cfg0.N) (y : S128x8192.Idx) (y' : S4096x32768.Idx)
    (h0 : (y' 0).val = (grid0.coords t 1).val * 128 + (y 0).val) (h1 : (y' 1).val = (grid0.coords t 0).val * 8192 + (y 1).val) :
    (iblk m c 0 t : Vec Bits S128x8192 .i8) y = (m ((c : Thread nD τ).loc main_arg0) : S4096x32768.Idx → BitVec 8) y' := by
  have e0 : win0_0.index t 0 = (grid0.coords t 1).val := by rw [index0]; rfl
  have e1 : win0_0.index t 1 = (grid0.coords t 0).val := by rw [index0]; rfl
  unfold iblk
  rw [View.read_apply]
  show V m c main_arg0 _ = m (c.tc.loc main_arg0) _
  unfold V
  congr 1
  funext a
  apply Fin.ext
  match a with
  | ⟨0, _⟩ => show win0_0.index t 0 * 128 + 1 * (y 0).val = (y' 0).val; rw [e0, h0]; omega
  | ⟨1, _⟩ => show win0_0.index t 1 * 8192 + 1 * (y 1).val = (y' 1).val; rw [e1, h1]; omega

/-- The block of scales read at a point, at an index: the array's scale there. -/
theorem iblk1_apply (c : Dev nD) (t : Fin cfg0.N) (y : S64x8192.Idx) (y' : S64x32768.Idx)
    (h0 : (y' 0).val = (y 0).val) (h1 : (y' 1).val = (grid0.coords t 0).val * 8192 + (y 1).val) :
    (iblk m c 1 t : Vec Bits S64x8192 .bf16) y = (m ((c : Thread nD τ).loc main_arg1) : S64x32768.Idx → Bits .bf16) y' := by
  have e0 : win0_1.index t 0 = 0 := by rw [index1]; rfl
  have e1 : win0_1.index t 1 = (grid0.coords t 0).val := by rw [index1]; rfl
  unfold iblk
  rw [View.read_apply]
  show V m c main_arg1 _ = m (c.tc.loc main_arg1) _
  unfold V
  congr 1
  funext a
  apply Fin.ext
  match a with
  | ⟨0, _⟩ => show win0_1.index t 0 * 64 + 1 * (y 0).val = (y' 0).val; rw [e0, h0]; omega
  | ⟨1, _⟩ => show win0_1.index t 1 * 8192 + 1 * (y 1).val = (y' 1).val; rw [e1, h1]; omega

/-- The block of zero points read at a point, at an index: the array's zero point there. -/
theorem iblk2_apply (c : Dev nD) (t : Fin cfg0.N) (y : S64x8192.Idx) (y' : S64x32768.Idx)
    (h0 : (y' 0).val = (y 0).val) (h1 : (y' 1).val = (grid0.coords t 0).val * 8192 + (y 1).val) :
    (iblk m c 2 t : Vec Bits S64x8192 .bf16) y = (m ((c : Thread nD τ).loc main_arg2) : S64x32768.Idx → Bits .bf16) y' := by
  have e0 : win0_2.index t 0 = 0 := by rw [index2]; rfl
  have e1 : win0_2.index t 1 = (grid0.coords t 0).val := by rw [index2]; rfl
  unfold iblk
  rw [View.read_apply]
  show V m c main_arg2 _ = m (c.tc.loc main_arg2) _
  unfold V
  congr 1
  funext a
  apply Fin.ext
  match a with
  | ⟨0, _⟩ => show win0_2.index t 0 * 64 + 1 * (y 0).val = (y' 0).val; rw [e0, h0]; omega
  | ⟨1, _⟩ => show win0_2.index t 1 * 8192 + 1 * (y 1).val = (y' 1).val; rw [e1, h1]; omega

/-- The array of the two halves, of the launch contents of the arguments. -/
abbrev wholeOf (c : Dev nD) : S2x4096x32768.Idx → Bits .bf16 :=
  whole (F := Bits) (m ((c : Thread nD τ).loc main_arg0)) (m ((c : Thread nD τ).loc main_arg1)) (m ((c : Thread nD τ).loc main_arg2))

/-- After the region the call's result array holds it. -/
theorem arr_eq (c : Dev nD) : (dats m 0 c).arrAt 3 cfg0.N = wholeOf m c := by
  refine (dats m 0 c).arrAt_eq_of_covers 3 _ (by decide +kernel) fun t hf y => ?_
  have e0 : win0_3.index t 0 = 0 := by rw [index3]; rfl
  have e1 : win0_3.index t 1 = (grid0.coords t 1).val := by rw [index3]; rfl
  have e2 : win0_3.index t 2 = (grid0.coords t 0).val := by rw [index3]; rfl
  rw [after0_3]
  show outsAt0 m c t y = _
  unfold outsAt0
  refine (out_eq c _ _ _ _ _ _ _ _ _ _ _ _ y).trans ?_
  refine block_eq_whole (F := Bits) (grid0.coords t 1) (grid0.coords t 0).val _ _ _ _ _ _
    (fun y y' => iblk0_apply m c t y y') (fun y y' => iblk1_apply m c t y y') (fun y y' => iblk2_apply m c t y y') y _ ?_ ?_ ?_
  · show win0_3.index t 0 * 2 + 1 * (y 0).val = (y 0).val; rw [e0]; omega
  · show win0_3.index t 1 * 128 + 1 * (y 1).val = _; rw [e1]; omega
  · show win0_3.index t 2 * 8192 + 1 * (y 2).val = _; rw [e2]; omega

/-- The result after the last line: the array reshaped. -/
theorem tail_eq (c : Dev nD) : Pipeline.afterTail₀ cfgs (dats m) 0 (V0 m) [hostOps1] c main_v1
    = shapeCast S8192x32768 (wholeOf m c) shapeCasts_S2x4096x32768_S8192x32768 := by
  unfold Pipeline.afterTail₀
  show StableHlo.after hostOps1 _ _ = _
  unfold hostOps1
  after_results
  rw [← arr_eq m c]
  exact congrArg (fun x => shapeCast S8192x32768 x shapeCasts_S2x4096x32768_S8192x32768)
    (Pipeline.withArrays_arr spec0 launch0.win.arr_inj c (V0 m c) (fun w => (dats m 0 c).arrAt w cfg0.N) 3)

/-- The restated kernel's run ends with its result holding the array reshaped, and the arguments as launched. -/
theorem run : θ_run defs (onTc (τ := τ) (main (F := Bits))) (s₀ m ρ) fun r => ∀ c : Dev nD,
      r.2.mem ((c : Thread nD τ).loc main_v1) = shapeCast S8192x32768 (wholeOf m c) shapeCasts_S2x4096x32768_S8192x32768
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Deq.Moved
-- ==== Proof.Deq.MovedIdealTrip.lean ====
/- What one trip of the ideal kernel's loop stores: four slabs of 32 rows in each half of the block, every one of them a slab of the
   block's entries. -/
module

public import proofs.«01_k».proof.Proof.Deq.Spec
public import proofs.«01_k».proof.Proof.Deq.Parity
public import proofs.«01_k».proof.Proof.Gen.MovedIdeal.Frame

@[expose] public section

set_option maxRecDepth 16384

noncomputable section

namespace Cert.Deq.MovedIdeal

open Idealize.ShloMosaic Idealize.ShloMosaic.TcCoe Idealize.ShloMosaic.Tactic
open Cert.MovedIdeal Cert.MovedIdeal.Gen

/-- The row of a pair that group `g` takes. -/
abbrev odd (g : Fin 32) : Fin 2 := ⟨g.val % 2, Nat.mod_lt _ (by decide)⟩

/-- The scales of half 0, spread over 32 rows from the pair loaded. -/
abbrev scale0 (g : Fin 32) (raw : Vec Ideal S2x512 .bf16) : FVec Ideal S32x512 .bf16 :=
  k0_pay6 (F := Ideal) (k0_pay4 (k0_pay3 (BitVec.ofNat 32 g.val) raw))
/-- The zero points of half 0. -/
abbrev zero0 (g : Fin 32) (raw : Vec Ideal S2x512 .bf16) : FVec Ideal S32x512 .bf16 :=
  k0_pay7 (F := Ideal) (k0_pay5 (Scalar.addi 0#32 (BitVec.ofNat 32 g.val)) raw)
/-- The scales of half 1. -/
abbrev scale1 (g : Fin 32) (raw : Vec Ideal S2x512 .bf16) : FVec Ideal S32x512 .bf16 :=
  k0_pay9 (F := Ideal) (k0_pay8 (BitVec.ofNat 32 g.val) raw)
/-- The zero points of half 1. -/
abbrev zero1 (g : Fin 32) (raw : Vec Ideal S2x512 .bf16) : FVec Ideal S32x512 .bf16 :=
  k0_pay10 (F := Ideal) (Scalar.addi 32#32 (BitVec.ofNat 32 g.val)) raw

/-- Eight copies of row `p` of a pair loaded. -/
def row (p : Fin 2) (raw : Vec Ideal S2x512 .bf16) : FVec Ideal S8x512 .bf16 :=
  concatenate S8x512 0 [⟨S1x512, rowsOfParity p S1x512 raw bitcasts_S2x512_w16_S1x512_w32⟩,
    ⟨S1x512, rowsOfParity p S1x512 raw bitcasts_S2x512_w16_S1x512_w32⟩, ⟨S1x512, rowsOfParity p S1x512 raw bitcasts_S2x512_w16_S1x512_w32⟩,
    ⟨S1x512, rowsOfParity p S1x512 raw bitcasts_S2x512_w16_S1x512_w32⟩, ⟨S1x512, rowsOfParity p S1x512 raw bitcasts_S2x512_w16_S1x512_w32⟩,
    ⟨S1x512, rowsOfParity p S1x512 raw bitcasts_S2x512_w16_S1x512_w32⟩, ⟨S1x512, rowsOfParity p S1x512 raw bitcasts_S2x512_w16_S1x512_w32⟩,
    ⟨S1x512, rowsOfParity p S1x512 raw bitcasts_S2x512_w16_S1x512_w32⟩]
    concatenates_S1x512_S1x512_S1x512_S1x512_S1x512_S1x512_S1x512_S1x512_S8x512_d0

/-- The row of the pair that row number `n + g` takes, chosen by its parity, eight times. -/
def half (n : BitVec 32) (g : Fin 32) (raw : Vec Ideal S2x512 .bf16) : FVec Ideal S8x512 .bf16 :=
  Scalar.select (Scalar.cmpi .eq (parity (Scalar.addi n (BitVec.ofNat 32 g.val))) 0#32) (row 0 raw) (row 1 raw)

/-- The chosen rows of the trip are these. -/
theorem pay3_eq (g : Fin 32) (raw : Vec Ideal S2x512 .bf16) : k0_pay3 (F := Ideal) (BitVec.ofNat 32 g.val) raw = half 0#32 g raw := by
  unfold k0_pay3 half parity row
  rfl
theorem pay5_eq (g : Fin 32) (raw : Vec Ideal S2x512 .bf16) : k0_pay5 (F := Ideal) (Scalar.addi 0#32 (BitVec.ofNat 32 g.val)) raw
    = interleaveRows S16x512 (half 0#32 g raw) (half 0#32 g raw) bitcasts_S16x512_w16_S8x512_w32 := by
  unfold k0_pay5 half parity row
  rfl
theorem pay8_eq (g : Fin 32) (raw : Vec Ideal S2x512 .bf16) : k0_pay8 (F := Ideal) (BitVec.ofNat 32 g.val) raw = half 32#32 g raw := by
  unfold k0_pay8 half parity row
  rfl
theorem pay10_eq (g : Fin 32) (raw : Vec Ideal S2x512 .bf16) : k0_pay10 (F := Ideal) (Scalar.addi 32#32 (BitVec.ofNat 32 g.val)) raw
    = concatenate S32x512 0 [⟨S16x512, interleaveRows S16x512 (half 32#32 g raw) (half 32#32 g raw) bitcasts_S16x512_w16_S8x512_w32⟩,
      ⟨S16x512, interleaveRows S16x512 (half 32#32 g raw) (half 32#32 g raw) bitcasts_S16x512_w16_S8x512_w32⟩]
      concatenates_S16x512_S16x512_S32x512_d0 := by
  unfold k0_pay10 half parity row
  rfl

/-- The chosen rows interleaved with themselves and repeated hold, in every row, the pair's row of the parity of `g`. -/
theorem half_apply (h : Fin 2) (g : Fin 32) (raw : Vec Ideal S2x512 .bf16) (i : S32x512.Idx) (y : FVec Ideal S8x512 .bf16)
    (hy : y = half (BitVec.ofNat 32 (32 * h.val)) g raw) :
    concatenate S32x512 0 [⟨S16x512, interleaveRows S16x512 y y bitcasts_S16x512_w16_S8x512_w32⟩,
        ⟨S16x512, interleaveRows S16x512 y y bitcasts_S16x512_w16_S8x512_w32⟩]
      concatenates_S16x512_S16x512_S32x512_d0 i = raw (ValueIdx.ix2 (odd g) (i 1)) :=
  spread_row raw (odd g) (Scalar.cmpi .eq (parity (Scalar.addi (BitVec.ofNat 32 (32 * h.val)) (BitVec.ofNat 32 g.val))) 0#32)
    (parity_cond h g) bitcasts_S2x512_w16_S1x512_w32 concatenates_S1x512_S1x512_S1x512_S1x512_S1x512_S1x512_S1x512_S1x512_S8x512_d0
    bitcasts_S16x512_w16_S8x512_w32 concatenates_S16x512_S16x512_S32x512_d0 y (row 0 raw) (row 1 raw) rfl rfl hy i

/-- Each of the four holds, in every row, the pair's row of the parity of `g`. -/
theorem scale0_apply (g : Fin 32) (raw : Vec Ideal S2x512 .bf16) (i : S32x512.Idx) :
    scale0 g raw i = raw (ValueIdx.ix2 (odd g) (i 1)) := by
  unfold scale0 k0_pay6 k0_pay4
  exact half_apply 0 g raw i _ (pay3_eq g raw)
theorem zero0_apply (g : Fin 32) (raw : Vec Ideal S2x512 .bf16) (i : S32x512.Idx) :
    zero0 g raw i = raw (ValueIdx.ix2 (odd g) (i 1)) := by
  unfold zero0 k0_pay7
  rw [pay5_eq]
  exact half_apply 0 g raw i _ rfl
theorem scale1_apply (g : Fin 32) (raw : Vec Ideal S2x512 .bf16) (i : S32x512.Idx) :
    scale1 g raw i = raw (ValueIdx.ix2 (odd g) (i 1)) := by
  unfold scale1 k0_pay9
  exact half_apply 1 g raw i _ (pay8_eq g raw)
theorem zero1_apply (g : Fin 32) (raw : Vec Ideal S2x512 .bf16) (i : S32x512.Idx) :
    zero1 g raw i = raw (ValueIdx.ix2 (odd g) (i 1)) := by
  unfold zero1
  rw [pay10_eq]
  exact half_apply 1 g raw i _ rfl

/-- A stored slab of half 0, at an index: the entry of the low four bits of the byte there. -/
theorem low_slab (g : Fin 32) (s z : Vec Ideal S2x512 .bf16) (w : Vec Ideal S32x512 .i8) (x : S1x32x512.Idx) :
    k0_pay12 (F := Ideal) (scale0 g s) (zero0 g z) w x
      = entry 0 (w (ValueIdx.ix2 (x 1) (x 2))) (z (ValueIdx.ix2 (odd g) (x 2))) (s (ValueIdx.ix2 (odd g) (x 2))) := by
  unfold k0_pay12
  exact slab_pay (F := Ideal) 0 (odd g) w _ (low_codes w bitcasts_S32x512_w8_S8x512_w32 bitcasts_S8x512_w32_S32x512_w8)
    (zero0 g z) (scale0 g s) z s (zero0_apply g z) (scale0_apply g s) _ x

/-- A stored slab of half 1, at an index: the entry of the high four bits of the byte there. -/
theorem high_slab (g : Fin 32) (s z : Vec Ideal S2x512 .bf16) (w : Vec Ideal S32x512 .i8) (x : S1x32x512.Idx) :
    k0_pay13 (F := Ideal) (scale1 g s) (zero1 g z) w x
      = entry 1 (w (ValueIdx.ix2 (x 1) (x 2))) (z (ValueIdx.ix2 (odd g) (x 2))) (s (ValueIdx.ix2 (odd g) (x 2))) := by
  unfold k0_pay13
  exact slab_pay (F := Ideal) 1 (odd g) w _ (high_codes w bitcasts_S32x512_w8_S8x512_w32 bitcasts_S8x512_w32_S32x512_w8)
    (zero1 g z) (scale1 g s) z s (zero1_apply g z) (scale1_apply g s) _ x

/-- The pairs of scale rows loaded: those that hold row `32 h + g`, at the trip's columns. -/
theorem off1_eq : ∀ (h : Fin 2) (i : grid0.Coords) (k : Fin k0_t1_loop.trips), k0_off1 i k (BitVec.ofNat 32 (32 * h.val))
    = ![2 * ((32 * h.val + (i 1).val) / 2), 512 * k.val] := by decide +kernel

/-- The pair of rows a trip loads of the scales (or zero points) for half `h`. -/
abbrev pairOf (h : Fin 2) (i : grid0.Coords) (k : Fin k0_t1_loop.trips) (a : Memref sig .tc .vmem S64x8192 .bf16)
    (X : BufTy.Contents (Elt Ideal) a.view.ty) : Vec Ideal S2x512 .bf16 :=
  View.readAt (Elt Ideal) a.view (Rect.unit (s := S64x8192) (k0_off1 i k (BitVec.ofNat 32 (32 * h.val))) S2x512.size (k0_off1_inb i k h)).toLoadRect X

/-- The pieces one trip writes, last first. -/
theorem trip_list (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole) (X2 : BufTy.Contents (Elt Ideal) arg2.view.ty)
    (X3 : BufTy.Contents (Elt Ideal) arg3.view.ty) (X4 : BufTy.Contents (Elt Ideal) arg4.view.ty) (k : Fin k0_t1_loop.trips) :
    tripL_k0_t1 (F := Ideal) Variants.none c none i arg2 harg2 arg3 harg3 arg4 harg4 arg5 harg5 (BitVec.ofNat 32 (i 1).val) X2 X3 X4 k =
      [⟨Rect.unit (s := S2x128x8192) (k0_off13 k) S1x32x512.size (k0_off13_inb k), k0_pay2 (F := Ideal) (scale1 (i 1) (pairOf 1 i k arg3 X3)) (zero1 (i 1) (pairOf 1 i k arg4 X4)) (k0_pay22 (View.readAt (Elt Ideal) arg2.view (Rect.unit (s := S128x8192) (k0_off11 k) S32x512.size (k0_off11_inb k)).toLoadRect X2))⟩,
        ⟨Rect.unit (s := S2x128x8192) (k0_off12 k) S1x32x512.size (k0_off12_inb k), k0_pay1 (F := Ideal) (scale0 (i 1) (pairOf 0 i k arg3 X3)) (zero0 (i 1) (pairOf 0 i k arg4 X4)) (k0_pay23 (View.readAt (Elt Ideal) arg2.view (Rect.unit (s := S128x8192) (k0_off11 k) S32x512.size (k0_off11_inb k)).toLoadRect X2))⟩,
        ⟨Rect.unit (s := S2x128x8192) (k0_off10 k) S1x32x512.size (k0_off10_inb k), k0_pay20 (F := Ideal) (scale1 (i 1) (pairOf 1 i k arg3 X3)) (zero1 (i 1) (pairOf 1 i k arg4 X4)) (View.readAt (Elt Ideal) arg2.view (Rect.unit (s := S128x8192) (k0_off8 k) S32x512.size (k0_off8_inb k)).toLoadRect X2)⟩,
        ⟨Rect.unit (s := S2x128x8192) (k0_off9 k) S1x32x512.size (k0_off9_inb k), k0_pay19 (F := Ideal) (scale0 (i 1) (pairOf 0 i k arg3 X3)) (zero0 (i 1) (pairOf 0 i k arg4 X4)) (View.readAt (Elt Ideal) arg2.view (Rect.unit (s := S128x8192) (k0_off8 k) S32x512.size (k0_off8_inb k)).toLoadRect X2)⟩,
        ⟨Rect.unit (s := S2x128x8192) (k0_off7 k) S1x32x512.size (k0_off7_inb k), k0_pay17 (F := Ideal) (scale1 (i 1) (pairOf 1 i k arg3 X3)) (zero1 (i 1) (pairOf 1 i k arg4 X4)) (k0_pay16 (View.readAt (Elt Ideal) arg2.view (Rect.unit (s := S128x8192) (k0_off5 k) S32x512.size (k0_off5_inb k)).toLoadRect X2))⟩,
        ⟨Rect.unit (s := S2x128x8192) (k0_off6 k) S1x32x512.size (k0_off6_inb k), k0_pay15 (F := Ideal) (scale0 (i 1) (pairOf 0 i k arg3 X3)) (zero0 (i 1) (pairOf 0 i k arg4 X4)) (View.readAt (Elt Ideal) arg2.view (Rect.unit (s := S128x8192) (k0_off5 k) S32x512.size (k0_off5_inb k)).toLoadRect X2)⟩,
        ⟨Rect.unit (s := S2x128x8192) (k0_off4 k) S1x32x512.size (k0_off4_inb k), k0_pay13 (F := Ideal) (scale1 (i 1) (pairOf 1 i k arg3 X3)) (zero1 (i 1) (pairOf 1 i k arg4 X4)) (View.readAt (Elt Ideal) arg2.view (Rect.unit (s := S128x8192) (k0_off2 k) S32x512.size (k0_off2_inb k)).toLoadRect X2)⟩,
        ⟨Rect.unit (s := S2x128x8192) (k0_off3 k) S1x32x512.size (k0_off3_inb k), k0_pay12 (F := Ideal) (scale0 (i 1) (pairOf 0 i k arg3 X3)) (zero0 (i 1) (pairOf 0 i k arg4 X4)) (View.readAt (Elt Ideal) arg2.view (Rect.unit (s := S128x8192) (k0_off2 k) S32x512.size (k0_off2_inb k)).toLoadRect X2)⟩] := by
  unfold tripL_k0_t1 trip_k0_t1
  dsimp only
  sl_unfold_words
  rfl

/-- The slabs of half 0 are one function of the scales, the zero points and the bytes, however the trip's lines are grouped; -/
theorem pay1_eq (s z : FVec Ideal S32x512 .bf16) (w : Vec Ideal S32x512 .i8) : k0_pay1 (F := Ideal) s z (k0_pay23 (F := Ideal) w) = k0_pay12 s z w := rfl
theorem pay15_eq (s z : FVec Ideal S32x512 .bf16) (w : Vec Ideal S32x512 .i8) : k0_pay15 (F := Ideal) s z w = k0_pay12 s z w := rfl
theorem pay19_eq (s z : FVec Ideal S32x512 .bf16) (w : Vec Ideal S32x512 .i8) : k0_pay19 (F := Ideal) s z w = k0_pay12 s z w := rfl
/-- and so are those of half 1. -/
theorem pay2_eq (s z : FVec Ideal S32x512 .bf16) (w : Vec Ideal S32x512 .i8) : k0_pay2 (F := Ideal) s z (k0_pay22 (F := Ideal) w) = k0_pay13 s z w := rfl
theorem pay17_eq (s z : FVec Ideal S32x512 .bf16) (w : Vec Ideal S32x512 .i8) : k0_pay17 (F := Ideal) s z (k0_pay16 (F := Ideal) w) = k0_pay13 s z w := rfl
theorem pay20_eq (s z : FVec Ideal S32x512 .bf16) (w : Vec Ideal S32x512 .i8) : k0_pay20 (F := Ideal) s z w = k0_pay13 s z w := rfl

/-- A slab of half 0 (then of half 1) computed from what is loaded of the three blocks agrees with the block's entries where it is stored. -/
theorem low_piece (g : Fin 32) (r k : Nat) (x0 : Vec Ideal S128x8192 .i8) (x1 x2 : Vec Ideal S64x8192 .bf16) (offw offs : Fin 2 → Nat) (offo : Fin 3 → Nat)
    (inbw : ∀ a, offw a + S32x512.size a ≤ S128x8192.size a) (inbs : ∀ a, offs a + S2x512.size a ≤ S64x8192.size a)
    (inbo : ∀ a, offo a + S1x32x512.size a ≤ S2x128x8192.size a) (hw : offw = ![r, 512 * k])
    (hs : offs = ![2 * ((32 * 0 + g.val) / 2), 512 * k]) (ho : offo = ![0, r, 512 * k]) (x : S1x32x512.Idx) :
    k0_pay12 (F := Ideal) (scale0 g (View.ld (Val := Elt Ideal) (e' := .bf16) x1 (Rect.unit (s := S64x8192) offs S2x512.size inbs)))
        (zero0 g (View.ld (Val := Elt Ideal) (e' := .bf16) x2 (Rect.unit (s := S64x8192) offs S2x512.size inbs)))
        (View.ld (Val := Elt Ideal) (e' := .i8) x0 (Rect.unit (s := S128x8192) offw S32x512.size inbw)) x
      = block (F := Ideal) g x0 x1 x2 ((Rect.unit (s := S2x128x8192) offo S1x32x512.size inbo).emb x) :=
  slab_block (F := Ideal) 0 g r k x0 x1 x2 _ offw offs offo inbw inbs inbo hw hs ho
    (fun x => low_slab g (View.ld (Val := Elt Ideal) (e' := .bf16) x1 (Rect.unit (s := S64x8192) offs S2x512.size inbs))
        (View.ld (Val := Elt Ideal) (e' := .bf16) x2 (Rect.unit (s := S64x8192) offs S2x512.size inbs))
        (View.ld (Val := Elt Ideal) (e' := .i8) x0 (Rect.unit (s := S128x8192) offw S32x512.size inbw)) x) x

theorem high_piece (g : Fin 32) (r k : Nat) (x0 : Vec Ideal S128x8192 .i8) (x1 x2 : Vec Ideal S64x8192 .bf16) (offw offs : Fin 2 → Nat) (offo : Fin 3 → Nat)
    (inbw : ∀ a, offw a + S32x512.size a ≤ S128x8192.size a) (inbs : ∀ a, offs a + S2x512.size a ≤ S64x8192.size a)
    (inbo : ∀ a, offo a + S1x32x512.size a ≤ S2x128x8192.size a) (hw : offw = ![r, 512 * k])
    (hs : offs = ![2 * ((32 * 1 + g.val) / 2), 512 * k]) (ho : offo = ![1, r, 512 * k]) (x : S1x32x512.Idx) :
    k0_pay13 (F := Ideal) (scale1 g (View.ld (Val := Elt Ideal) (e' := .bf16) x1 (Rect.unit (s := S64x8192) offs S2x512.size inbs)))
        (zero1 g (View.ld (Val := Elt Ideal) (e' := .bf16) x2 (Rect.unit (s := S64x8192) offs S2x512.size inbs)))
        (View.ld (Val := Elt Ideal) (e' := .i8) x0 (Rect.unit (s := S128x8192) offw S32x512.size inbw)) x
      = block (F := Ideal) g x0 x1 x2 ((Rect.unit (s := S2x128x8192) offo S1x32x512.size inbo).emb x) :=
  slab_block (F := Ideal) 1 g r k x0 x1 x2 _ offw offs offo inbw inbs inbo hw hs ho
    (fun x => high_slab g (View.ld (Val := Elt Ideal) (e' := .bf16) x1 (Rect.unit (s := S64x8192) offs S2x512.size inbs))
        (View.ld (Val := Elt Ideal) (e' := .bf16) x2 (Rect.unit (s := S64x8192) offs S2x512.size inbs))
        (View.ld (Val := Elt Ideal) (e' := .i8) x0 (Rect.unit (s := S128x8192) offw S32x512.size inbw)) x) x

/-- Every slab one trip stores agrees with the block's entries where it is placed. -/
theorem trip_agrees (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Ideal S128x8192 .i8) (x1 : Vec Ideal S64x8192 .bf16) (x2 : Vec Ideal S64x8192 .bf16) (k : Fin k0_t1_loop.trips) :
    ∀ p ∈ tripL_k0_t1 (F := Ideal) Variants.none c none i arg2 harg2 arg3 harg3 arg4 harg4 arg5 harg5 (BitVec.ofNat 32 (i 1).val)
      (harg2.unread x0) (harg3.unread x1) (harg4.unread x2) k, ∀ x, p.2 x = block (F := Ideal) (i 1) x0 x1 x2 (p.1.emb x) := by
  rw [trip_list]
  unfold pairOf
  rw [View.readAt_eq_ld, View.readAt_eq_ld, View.readAt_eq_ld, View.readAt_eq_ld, View.readAt_eq_ld, View.readAt_eq_ld, View.readAt_eq_ld, View.readAt_eq_ld,
    harg2.read_unread, harg3.read_unread, harg4.read_unread, pay1_eq, pay15_eq, pay19_eq, pay2_eq, pay17_eq, pay20_eq]
  intro p hp
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  rcases List.mem_cons.mp hp with rfl | hp
  rotate_left
  · exact absurd hp List.not_mem_nil
  all_goals intro x
  · exact high_piece (i 1) 96 k.val x0 x1 x2 (k0_off11 k) (k0_off1 i k (BitVec.ofNat 32 (32 * (Fin.val (n := 2) 1)))) (k0_off13 k)
      (k0_off11_inb k) (k0_off1_inb i k 1) (k0_off13_inb k) (k0_off11_eq k) (off1_eq 1 i k) (k0_off13_eq k) x
  · exact low_piece (i 1) 96 k.val x0 x1 x2 (k0_off11 k) (k0_off1 i k (BitVec.ofNat 32 (32 * (Fin.val (n := 2) 0)))) (k0_off12 k)
      (k0_off11_inb k) (k0_off1_inb i k 0) (k0_off12_inb k) (k0_off11_eq k) (off1_eq 0 i k) (k0_off12_eq k) x
  · exact high_piece (i 1) 64 k.val x0 x1 x2 (k0_off8 k) (k0_off1 i k (BitVec.ofNat 32 (32 * (Fin.val (n := 2) 1)))) (k0_off10 k)
      (k0_off8_inb k) (k0_off1_inb i k 1) (k0_off10_inb k) (k0_off8_eq k) (off1_eq 1 i k) (k0_off10_eq k) x
  · exact low_piece (i 1) 64 k.val x0 x1 x2 (k0_off8 k) (k0_off1 i k (BitVec.ofNat 32 (32 * (Fin.val (n := 2) 0)))) (k0_off9 k)
      (k0_off8_inb k) (k0_off1_inb i k 0) (k0_off9_inb k) (k0_off8_eq k) (off1_eq 0 i k) (k0_off9_eq k) x
  · exact high_piece (i 1) 32 k.val x0 x1 x2 (k0_off5 k) (k0_off1 i k (BitVec.ofNat 32 (32 * (Fin.val (n := 2) 1)))) (k0_off7 k)
      (k0_off5_inb k) (k0_off1_inb i k 1) (k0_off7_inb k) (k0_off5_eq k) (off1_eq 1 i k) (k0_off7_eq k) x
  · exact low_piece (i 1) 32 k.val x0 x1 x2 (k0_off5 k) (k0_off1 i k (BitVec.ofNat 32 (32 * (Fin.val (n := 2) 0)))) (k0_off6 k)
      (k0_off5_inb k) (k0_off1_inb i k 0) (k0_off6_inb k) (k0_off5_eq k) (off1_eq 0 i k) (k0_off6_eq k) x
  · exact high_piece (i 1) 0 k.val x0 x1 x2 (k0_off2 k) (k0_off1 i k (BitVec.ofNat 32 (32 * (Fin.val (n := 2) 1)))) (k0_off4 k)
      (k0_off2_inb k) (k0_off1_inb i k 1) (k0_off4_inb k) (k0_off2_eq k) (off1_eq 1 i k) (k0_off4_eq k) x
  · exact low_piece (i 1) 0 k.val x0 x1 x2 (k0_off2 k) (k0_off1 i k (BitVec.ofNat 32 (32 * (Fin.val (n := 2) 0)))) (k0_off3 k)
      (k0_off2_inb k) (k0_off1_inb i k 0) (k0_off3_inb k) (k0_off2_eq k) (off1_eq 0 i k) (k0_off3_eq k) x

end Cert.Deq.MovedIdeal
-- ==== Proof.Deq.MovedIdealRun.lean ====
/- What the ideal kernel's run leaves: the loop's pieces make up the block, the blocks make up the array, and the reshape after the call
   puts the array's two halves one below the other. -/
module

public import proofs.«01_k».proof.Proof.Deq.MovedIdealTrip
public import proofs.«01_k».proof.Proof.Deq.Whole
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.Deq.MovedIdeal

open Idealize.ShloMosaic Idealize.ShloMosaic.TcCoe Idealize.ShloMosaic.Tactic Idealize.SL.Sem
open Idealize.ShloMosaic.Pipeline (Dat)
open Cert.MovedIdeal Cert.MovedIdeal.Gen

/-- Every slab the first `n` trips store agrees with the block's entries where it is placed. -/
theorem pieces_agree (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Ideal S128x8192 .i8) (x1 : Vec Ideal S64x8192 .bf16) (x2 : Vec Ideal S64x8192 .bf16) :
    ∀ n : Nat, n ≤ k0_t1_loop.trips →
    ∀ p ∈ pb_k0_t1 (F := Ideal) Variants.none c none i arg2 harg2 arg3 harg3 arg4 harg4 arg5 harg5 (BitVec.ofNat 32 (i 1).val)
      (harg2.unread x0) (harg3.unread x1) (harg4.unread x2) n, ∀ x, p.2 x = block (F := Ideal) (i 1) x0 x1 x2 (p.1.emb x)
  | 0, _, p, hp => absurd hp (by rw [pb_k0_t1]; exact List.not_mem_nil)
  | n + 1, hn, p, hp => by
    rw [pb_k0_t1_succ (F := Ideal) Variants.none c none i arg2 harg2 arg3 harg3 arg4 harg4 arg5 harg5 (BitVec.ofNat 32 (i 1).val)
      (harg2.unread x0) (harg3.unread x1) (harg4.unread x2) ⟨n, hn⟩] at hp
    rcases List.mem_append.mp hp with h | h
    · exact trip_agrees c i arg2 harg2 arg3 harg3 arg4 harg4 arg5 harg5 x0 x1 x2 ⟨n, hn⟩ p h
    · exact pieces_agree c i arg2 harg2 arg3 harg3 arg4 harg4 arg5 harg5 x0 x1 x2 n (Nat.le_of_succ_le hn) p h

/-- The block the body leaves holds the block's entries. -/
theorem out_eq (c : Dev nD) (i : grid0.Coords) (arg2 : Memref sig .tc .vmem S128x8192 .i8) (harg2 : arg2.IsWhole)
    (arg3 : Memref sig .tc .vmem S64x8192 .bf16) (harg3 : arg3.IsWhole) (arg4 : Memref sig .tc .vmem S64x8192 .bf16) (harg4 : arg4.IsWhole)
    (arg5 : Memref sig .tc .vmem S2x128x8192 .bf16) (harg5 : arg5.IsWhole)
    (x0 : Vec Ideal S128x8192 .i8) (x1 : Vec Ideal S64x8192 .bf16) (x2 : Vec Ideal S64x8192 .bf16) (y : S2x128x8192.Idx) :
    out0_A_3 c i arg2 harg2 arg3 harg3 arg4 harg4 arg5 harg5 x0 x1 x2 y = block (F := Ideal) (i 1) x0 x1 x2 y := by
  have hc := cover0_A_3 c i arg2 harg2 arg3 harg3 arg4 harg4 arg5 harg5 x0 x1 x2 y
  unfold out0_A_3
  refine View.read_writes_apply_of_pieces _ _ _ _ ?_ y hc
  unfold kernelRun0_A
  dsimp only
  exact pieces_agree c i arg2 harg2 arg3 harg3 arg4 harg4 arg5 harg5 x0 x1 x2 k0_t1_loop.trips (Nat.le_refl _)

variable (m : (ℓ : Loc nD τ sig) → Buf (Elt Ideal) ℓ) (ρ : Dev nD → PrngReg)

/-- The block indices of the four windows: bytes at (group, columns), scales and zero points at (0, columns), the result at
    (0, group, columns). -/
theorem index0 : ∀ t : Fin cfg0.N, win0_0.index t = ![(grid0.coords t 1).val, (grid0.coords t 0).val] :=
  (by decide +kernel : ∀ t : Fin grid0.N, win0_0.index t = ![(grid0.coords t 1).val, (grid0.coords t 0).val])
theorem index1 : ∀ t : Fin cfg0.N, win0_1.index t = ![0, (grid0.coords t 0).val] :=
  (by decide +kernel : ∀ t : Fin grid0.N, win0_1.index t = ![0, (grid0.coords t 0).val])
theorem index2 : ∀ t : Fin cfg0.N, win0_2.index t = ![0, (grid0.coords t 0).val] :=
  (by decide +kernel : ∀ t : Fin grid0.N, win0_2.index t = ![0, (grid0.coords t 0).val])
theorem index3 : ∀ t : Fin cfg0.N, win0_3.index t = ![0, (grid0.coords t 1).val, (grid0.coords t 0).val] :=
  (by decide +kernel : ∀ t : Fin grid0.N, win0_3.index t = ![0, (grid0.coords t 1).val, (grid0.coords t 0).val])

/-- The block of bytes read at a point, at an index: the array's byte there. -/
theorem iblk0_apply (c : Dev nD) (t : Fin cfg0.N) (y : S128x8192.Idx) (y' : S4096x32768.Idx)
    (h0 : (y' 0).val = (grid0.coords t 1).val * 128 + (y 0).val) (h1 : (y' 1).val = (grid0.coords t 0).val * 8192 + (y 1).val) :
    (iblk m c 0 t : Vec Ideal S128x8192 .i8) y = (m ((c : Thread nD τ).loc main_arg0) : S4096x32768.Idx → BitVec 8) y' := by
  have e0 : win0_0.index t 0 = (grid0.coords t 1).val := by rw [index0]; rfl
  have e1 : win0_0.index t 1 = (grid0.coords t 0).val := by rw [index0]; rfl
  unfold iblk
  rw [View.read_apply]
  show V m c main_arg0 _ = m (c.tc.loc main_arg0) _
  unfold V
  congr 1
  funext a
  apply Fin.ext
  match a with
  | ⟨0, _⟩ => show win0_0.index t 0 * 128 + 1 * (y 0).val = (y' 0).val; rw [e0, h0]; omega
  | ⟨1, _⟩ => show win0_0.index t 1 * 8192 + 1 * (y 1).val = (y' 1).val; rw [e1, h1]; omega

/-- The block of scales read at a point, at an index: the array's scale there. -/
theorem iblk1_apply (c : Dev nD) (t : Fin cfg0.N) (y : S64x8192.Idx) (y' : S64x32768.Idx)
    (h0 : (y' 0).val = (y 0).val) (h1 : (y' 1).val = (grid0.coords t 0).val * 8192 + (y 1).val) :
    (iblk m c 1 t : Vec Ideal S64x8192 .bf16) y = (m ((c : Thread nD τ).loc main_arg1) : S64x32768.Idx → Ideal .bf16) y' := by
  have e0 : win0_1.index t 0 = 0 := by rw [index1]; rfl
  have e1 : win0_1.index t 1 = (grid0.coords t 0).val := by rw [index1]; rfl
  unfold iblk
  rw [View.read_apply]
  show V m c main_arg1 _ = m (c.tc.loc main_arg1) _
  unfold V
  congr 1
  funext a
  apply Fin.ext
  match a with
  | ⟨0, _⟩ => show win0_1.index t 0 * 64 + 1 * (y 0).val = (y' 0).val; rw [e0, h0]; omega
  | ⟨1, _⟩ => show win0_1.index t 1 * 8192 + 1 * (y 1).val = (y' 1).val; rw [e1, h1]; omega

/-- The block of zero points read at a point, at an index: the array's zero point there. -/
theorem iblk2_apply (c : Dev nD) (t : Fin cfg0.N) (y : S64x8192.Idx) (y' : S64x32768.Idx)
    (h0 : (y' 0).val = (y 0).val) (h1 : (y' 1).val = (grid0.coords t 0).val * 8192 + (y 1).val) :
    (iblk m c 2 t : Vec Ideal S64x8192 .bf16) y = (m ((c : Thread nD τ).loc main_arg2) : S64x32768.Idx → Ideal .bf16) y' := by
  have e0 : win0_2.index t 0 = 0 := by rw [index2]; rfl
  have e1 : win0_2.index t 1 = (grid0.coords t 0).val := by rw [index2]; rfl
  unfold iblk
  rw [View.read_apply]
  show V m c main_arg2 _ = m (c.tc.loc main_arg2) _
  unfold V
  congr 1
  funext a
  apply Fin.ext
  match a with
  | ⟨0, _⟩ => show win0_2.index t 0 * 64 + 1 * (y 0).val = (y' 0).val; rw [e0, h0]; omega
  | ⟨1, _⟩ => show win0_2.index t 1 * 8192 + 1 * (y 1).val = (y' 1).val; rw [e1, h1]; omega

/-- The array of the two halves, of the launch contents of the arguments. -/
abbrev wholeOf (c : Dev nD) : S2x4096x32768.Idx → Ideal .bf16 :=
  whole (F := Ideal) (m ((c : Thread nD τ).loc main_arg0)) (m ((c : Thread nD τ).loc main_arg1)) (m ((c : Thread nD τ).loc main_arg2))

/-- After the region the call's result array holds it. -/
theorem arr_eq (c : Dev nD) : (dats m 0 c).arrAt 3 cfg0.N = wholeOf m c := by
  refine (dats m 0 c).arrAt_eq_of_covers 3 _ (by decide +kernel) fun t hf y => ?_
  have e0 : win0_3.index t 0 = 0 := by rw [index3]; rfl
  have e1 : win0_3.index t 1 = (grid0.coords t 1).val := by rw [index3]; rfl
  have e2 : win0_3.index t 2 = (grid0.coords t 0).val := by rw [index3]; rfl
  rw [after0_3]
  show outsAt0 m c t y = _
  unfold outsAt0
  refine (out_eq c _ _ _ _ _ _ _ _ _ _ _ _ y).trans ?_
  refine block_eq_whole (F := Ideal) (grid0.coords t 1) (grid0.coords t 0).val _ _ _ _ _ _
    (fun y y' => iblk0_apply m c t y y') (fun y y' => iblk1_apply m c t y y') (fun y y' => iblk2_apply m c t y y') y _ ?_ ?_ ?_
  · show win0_3.index t 0 * 2 + 1 * (y 0).val = (y 0).val; rw [e0]; omega
  · show win0_3.index t 1 * 128 + 1 * (y 1).val = _; rw [e1]; omega
  · show win0_3.index t 2 * 8192 + 1 * (y 2).val = _; rw [e2]; omega

/-- The result after the last line: the array reshaped. -/
theorem tail_eq (c : Dev nD) : Pipeline.afterTail₀ cfgs (dats m) 0 (V0 m) [hostOps1] c main_v1
    = shapeCast S8192x32768 (wholeOf m c) shapeCasts_S2x4096x32768_S8192x32768 := by
  unfold Pipeline.afterTail₀
  show StableHlo.after hostOps1 _ _ = _
  unfold hostOps1
  after_results
  rw [← arr_eq m c]
  exact congrArg (fun x => shapeCast S8192x32768 x shapeCasts_S2x4096x32768_S8192x32768)
    (Pipeline.withArrays_arr spec0 launch0.win.arr_inj c (V0 m c) (fun w => (dats m 0 c).arrAt w cfg0.N) 3)

/-- The ideal kernel's run ends with its result holding the array reshaped, and the arguments as launched. -/
theorem run : θ_run defs (onTc (τ := τ) (main (F := Ideal))) (s₀ m ρ) fun r => ∀ c : Dev nD,
      r.2.mem ((c : Thread nD τ).loc main_v1) = shapeCast S8192x32768 (wholeOf m c) shapeCasts_S2x4096x32768_S8192x32768
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Deq.MovedIdeal
-- ==== Proof.Deq.RefTerm.lean ====
/- The reference's term, read at an index: the rows of bytes split in groups, the two shifts of each byte masked to four bits, the
   scales and the zero points spread over their groups, and the two halves put one below the other. -/
module

public import proofs.«01_k».proof.Proof.Deq.Whole
public import Idealize.ShloMosaic.Lib.Pipeline.Value
public import Idealize.ShloMosaic.Lib.StableHlo.Run

@[expose] public section

noncomputable section

namespace Cert.Deq

open Idealize.ShloMosaic

variable {F : FTy → Type} [FloatOps F]

/-- The shapes of the reference's intermediate arrays. -/
abbrev Lits : Shape := ⟨1, ![2]⟩
abbrev Lits4 : Shape := ⟨4, ![2, 1, 1, 1]⟩
abbrev W4 : Shape := ⟨4, ![1, 32, 128, 32768]⟩
abbrev S4 : Shape := ⟨4, ![2, 32, 1, 32768]⟩
abbrev O4 : Shape := ⟨4, ![2, 32, 128, 32768]⟩
abbrev Pt : Shape := ⟨0, ![]⟩

/-- Row `128 g + r` of the packed bytes. -/
def wrow (g : Fin 32) (r : Fin 128) : Fin 4096 := ⟨128 * g.val + r.val, by omega⟩

/-- The word the reference converts, a byte widened, shifted right by `4 h` and masked by 15, is the code of half `h` widened. -/
theorem host_code (h : Fin 2) (b : BitVec 8) (l : BitVec 8) (hl : l = BitVec.ofNat 8 (4 * h.val)) :
    (IntOp.andi (IntOp.shrui .host (b.setWidth 32) (l.setWidth 32)) 15#32).toNat = (code h.val b).toNat := by
  subst hl
  match h with
  | ⟨0, _⟩ =>
    have : ∀ b : BitVec 8, (IntOp.andi (IntOp.shrui .host (b.setWidth 32) ((BitVec.ofNat 8 (4 * 0)).setWidth 32)) 15#32).toNat
        = (code 0 b).toNat := by
      intro b
      unfold IntOp.shrui
      rw [if_pos (by decide)]
      revert b
      decide +kernel
    exact this b
  | ⟨1, _⟩ =>
    have : ∀ b : BitVec 8, (IntOp.andi (IntOp.shrui .host (b.setWidth 32) ((BitVec.ofNat 8 (4 * 1)).setWidth 32)) 15#32).toNat
        = (code 1 b).toNat := by
      intro b
      unfold IntOp.shrui
      rw [if_pos (by decide)]
      revert b
      decide +kernel
    exact this b

/-- A code is below sixteen. -/
theorem code_lt (h : Fin 2) (b : BitVec 8) : (code h.val b).toNat < 16 := by
  have : ∀ b : BitVec 8, (code 0 b).toNat < 16 ∧ (code 1 b).toNat < 16 := by decide +kernel
  match h with
  | ⟨0, _⟩ => exact (this b).1
  | ⟨1, _⟩ => exact (this b).2

/-- The bytes split in groups and repeated for the two halves, at an index. -/
theorem spread_bytes (w : WArr.Idx → BitVec 8) (h1 : WArr.ShapeCasts W4) (h2 : 8 < 32) (h3 : W4.BroadcastsInDim O4 ![0, 1, 2, 3])
    (k : O4.Idx) : broadcastInDim O4 ![0, 1, 2, 3] h3 (extui 32 (shapeCast W4 w h1) h2) k
      = (w (ValueIdx.ix2 (wrow (k 1) (k 2)) (k 3))).setWidth 32 := by
  refine (broadcastInDim_apply (s := W4) (t := O4) _ h3 _ k (ValueIdx.ix4 (0 : Fin 1) (k 1) (k 2) (k 3)) fun a => ?_).trans ?_
  · match a with
    | ⟨0, _⟩ => rfl
    | ⟨1, _⟩ => rfl
    | ⟨2, _⟩ => rfl
    | ⟨3, _⟩ => rfl
  · refine congrArg (BitVec.setWidth 32) (shapeCast_apply (s := WArr) (t := W4) w h1 _ (ValueIdx.ix2 (wrow (k 1) (k 2)) (k 3)) ?_)
    rw [Shape.rowMajor_val_two, Shape.rowMajor_val_four]
    show (128 * (k 1).val + (k 2).val) * 32768 + (k 3).val = ((0 * 32 + (k 1).val) * 128 + (k 2).val) * 32768 + (k 3).val
    omega

/-- The two shift amounts repeated over the array, at an index: the half's. -/
theorem spread_shifts (l : Fin 2 → BitVec 8) (h1 : Lits.ShapeCasts Lits4) (h2 : 8 < 32) (h3 : Lits4.BroadcastsInDim O4 ![0, 1, 2, 3])
    (k : O4.Idx) : broadcastInDim O4 ![0, 1, 2, 3] h3 (extui 32 (shapeCast Lits4 (fun i : Lits.Idx => l (Lits.rowMajor i)) h1) h2) k
      = (l (k 0)).setWidth 32 := by
  refine (broadcastInDim_apply (s := Lits4) (t := O4) _ h3 _ k (ValueIdx.ix4 (k 0) (0 : Fin 1) (0 : Fin 1) (0 : Fin 1))
    fun a => ?_).trans ?_
  · match a with
    | ⟨0, _⟩ => rfl
    | ⟨1, _⟩ => rfl
    | ⟨2, _⟩ => rfl
    | ⟨3, _⟩ => rfl
  · refine congrArg (BitVec.setWidth 32) ((shapeCast_apply (s := Lits) (t := Lits4) _ h1 _ (ValueIdx.ix1 (k 0)) ?_).trans ?_)
    · rw [Shape.rowMajor_val_one, Shape.rowMajor_val_four]
      show (k 0).val = (((k 0).val * 1 + 0) * 1 + 0) * 1 + 0
      omega
    · exact congrArg l (Fin.ext (Shape.rowMajor_val_one _))

/-- The scales (or zero points) spread over their groups, at an index: those of the half's row for the group. -/
theorem spread_scales {α : Type} (s : SArr.Idx → α) (h1 : SArr.ShapeCasts S4) (h3 : S4.BroadcastsInDim O4 ![0, 1, 2, 3])
    (k : O4.Idx) : broadcastInDim O4 ![0, 1, 2, 3] h3 (shapeCast S4 s h1) k = s (ValueIdx.ix2 (srow (k 0) (k 1)) (k 3)) := by
  refine (broadcastInDim_apply (s := S4) (t := O4) _ h3 _ k (ValueIdx.ix4 (k 0) (k 1) (0 : Fin 1) (k 3)) fun a => ?_).trans ?_
  · match a with
    | ⟨0, _⟩ => rfl
    | ⟨1, _⟩ => rfl
    | ⟨2, _⟩ => rfl
    | ⟨3, _⟩ => rfl
  · refine shapeCast_apply (s := SArr) (t := S4) s h1 _ (ValueIdx.ix2 (srow (k 0) (k 1)) (k 3)) ?_
    rw [Shape.rowMajor_val_two, Shape.rowMajor_val_four]
    show (32 * (k 0).val + (k 1).val) * 32768 + (k 3).val = (((k 0).val * 32 + (k 1).val) * 1 + 0) * 32768 + (k 3).val
    omega

/-- Whether an unsigned word below sixteen and the byte of the same number convert to the same bf16 value. -/
def SameConvert (F : FTy → Type) [FloatOps F] : Prop :=
  ∀ (n : BitVec 32) (b : BitVec 8), n.toNat = b.toNat → b.toNat < 16 →
    (FloatOps.uitofp .bf16 n : F .bf16) = FloatOps.sitofp .bf16 b

/-- The reference's array before its last reshape, at an index: the entry of the byte there. -/
theorem ref_entry (hF : SameConvert F) (w : WArr.Idx → BitVec 8) (s z : SArr.Idx → F .bf16) (l : Fin 2 → BitVec 8)
    (hl : ∀ h : Fin 2, l h = BitVec.ofNat 8 (4 * h.val)) (a1 : WArr.ShapeCasts W4) (a2 : 8 < 32)
    (a3 : W4.BroadcastsInDim O4 ![0, 1, 2, 3]) (a4 : Lits.ShapeCasts Lits4) (a5 : Lits4.BroadcastsInDim O4 ![0, 1, 2, 3])
    (a6 : Pt.BroadcastsInDim O4 ![]) (a7 : SArr.ShapeCasts S4) (a8 : S4.BroadcastsInDim O4 ![0, 1, 2, 3]) (k : O4.Idx) :
    mulf (subf (uitofp (F := F) .bf16 (andi (Host.shrui
        (broadcastInDim O4 ![0, 1, 2, 3] a3 (extui 32 (shapeCast W4 w a1) a2))
        (broadcastInDim O4 ![0, 1, 2, 3] a5 (extui 32 (shapeCast Lits4 (fun i : Lits.Idx => l (Lits.rowMajor i)) a4) a2)))
        (broadcastInDim O4 ![] a6 (constantI Pt 32 15#32))))
        (broadcastInDim O4 ![0, 1, 2, 3] a8 (shapeCast S4 z a7)))
      (broadcastInDim O4 ![0, 1, 2, 3] a8 (shapeCast S4 s a7)) k
      = entry (k 0).val (w (ValueIdx.ix2 (wrow (k 1) (k 2)) (k 3))) (z (ValueIdx.ix2 (srow (k 0) (k 1)) (k 3)))
          (s (ValueIdx.ix2 (srow (k 0) (k 1)) (k 3))) := by
  show FloatOps.mulf (FloatOps.subf (FloatOps.uitofp .bf16 (IntOp.andi (IntOp.shrui .host
    (broadcastInDim O4 ![0, 1, 2, 3] a3 (extui 32 (shapeCast W4 w a1) a2) k)
    (broadcastInDim O4 ![0, 1, 2, 3] a5 (extui 32 (shapeCast Lits4 (fun i : Lits.Idx => l (Lits.rowMajor i)) a4) a2) k)) 15#32))
    (broadcastInDim O4 ![0, 1, 2, 3] a8 (shapeCast S4 z a7) k)) (broadcastInDim O4 ![0, 1, 2, 3] a8 (shapeCast S4 s a7) k) = _
  rw [spread_bytes, spread_shifts, spread_scales, spread_scales]
  unfold entry
  rw [hF _ _ (host_code (k 0) _ _ (hl (k 0))) (code_lt (k 0) _)]

/-- The reference's result is the array of the two halves, put one below the other. -/
theorem ref_eq (hF : SameConvert F) (w : WArr.Idx → BitVec 8) (s z : SArr.Idx → F .bf16) (l : Fin 2 → BitVec 8)
    (hl : ∀ h : Fin 2, l h = BitVec.ofNat 8 (4 * h.val)) (a1 : WArr.ShapeCasts W4) (a2 : 8 < 32)
    (a3 : W4.BroadcastsInDim O4 ![0, 1, 2, 3]) (a4 : Lits.ShapeCasts Lits4) (a5 : Lits4.BroadcastsInDim O4 ![0, 1, 2, 3])
    (a6 : Pt.BroadcastsInDim O4 ![]) (a7 : SArr.ShapeCasts S4) (a8 : S4.BroadcastsInDim O4 ![0, 1, 2, 3]) (a9 : O4.ShapeCasts Out)
    (a10 : OArr.ShapeCasts Out) :
    shapeCast Out (mulf (subf (uitofp (F := F) .bf16 (andi (Host.shrui
        (broadcastInDim O4 ![0, 1, 2, 3] a3 (extui 32 (shapeCast W4 w a1) a2))
        (broadcastInDim O4 ![0, 1, 2, 3] a5 (extui 32 (shapeCast Lits4 (fun i : Lits.Idx => l (Lits.rowMajor i)) a4) a2)))
        (broadcastInDim O4 ![] a6 (constantI Pt 32 15#32))))
        (broadcastInDim O4 ![0, 1, 2, 3] a8 (shapeCast S4 z a7)))
      (broadcastInDim O4 ![0, 1, 2, 3] a8 (shapeCast S4 s a7))) a9
      = shapeCast Out (whole w s z) a10 := by
  funext j
  have b0 : (j 0).val < 8192 := (j 0).isLt
  have b1 : (j 1).val < 32768 := (j 1).isLt
  have e4 := shapeCast_apply (s := O4) (t := Out) (mulf (subf (uitofp (F := F) .bf16 (andi (Host.shrui
        (broadcastInDim O4 ![0, 1, 2, 3] a3 (extui 32 (shapeCast W4 w a1) a2))
        (broadcastInDim O4 ![0, 1, 2, 3] a5 (extui 32 (shapeCast Lits4 (fun i : Lits.Idx => l (Lits.rowMajor i)) a4) a2)))
        (broadcastInDim O4 ![] a6 (constantI Pt 32 15#32))))
        (broadcastInDim O4 ![0, 1, 2, 3] a8 (shapeCast S4 z a7)))
      (broadcastInDim O4 ![0, 1, 2, 3] a8 (shapeCast S4 s a7))) a9 j
    (ValueIdx.ix4 (⟨(j 0).val / 4096, by omega⟩ : Fin 2) (⟨(j 0).val % 4096 / 128, by omega⟩ : Fin 32)
      (⟨(j 0).val % 128, by omega⟩ : Fin 128) (⟨(j 1).val, b1⟩ : Fin 32768)) (by
      rw [Shape.rowMajor_val_two, Shape.rowMajor_val_four]
      show (((j 0).val / 4096 * 32 + (j 0).val % 4096 / 128) * 128 + (j 0).val % 128) * 32768 + (j 1).val
        = (j 0).val * 32768 + (j 1).val
      omega)
  have e3 := shapeCast_apply (s := OArr) (t := Out) (whole w s z) a10 j
    (ValueIdx.ix3 (⟨(j 0).val / 4096, by omega⟩ : Fin 2) (⟨(j 0).val % 4096, by omega⟩ : Fin 4096) (⟨(j 1).val, b1⟩ : Fin 32768)) (by
      rw [Shape.rowMajor_val_two, Shape.rowMajor_val_three]
      show ((j 0).val / 4096 * 4096 + (j 0).val % 4096) * 32768 + (j 1).val = (j 0).val * 32768 + (j 1).val
      omega)
  refine e4.trans ((ref_entry hF w s z l hl a1 a2 a3 a4 a5 a6 a7 a8 _).trans (Eq.trans ?_ e3.symm))
  have er : wrow (⟨(j 0).val % 4096 / 128, by omega⟩ : Fin 32) (⟨(j 0).val % 128, by omega⟩ : Fin 128)
      = (⟨(j 0).val % 4096, by omega⟩ : Fin 4096) := Fin.ext (by
    show 128 * ((j 0).val % 4096 / 128) + (j 0).val % 128 = (j 0).val % 4096
    omega)
  have ew := congrArg (fun r => w (ValueIdx.ix2 r (⟨(j 1).val, b1⟩ : Fin 32768))) er
  exact congrArg (fun b => entry ((j 0).val / 4096) b
    (z (ValueIdx.ix2 (srow ⟨(j 0).val / 4096, by omega⟩ ⟨(j 0).val % 4096 / 128, by omega⟩) (⟨(j 1).val, b1⟩ : Fin 32768)))
    (s (ValueIdx.ix2 (srow ⟨(j 0).val / 4096, by omega⟩ ⟨(j 0).val % 4096 / 128, by omega⟩) (⟨(j 1).val, b1⟩ : Fin 32768)))) ew

/-- On bit patterns: both conversions round the integer to f32 and then to bf16, and a byte below sixteen is its own signed value. -/
theorem sameConvert_bits : SameConvert Bits := by
  intro n b h hb
  show Bits.uitofp .bf16 32 n = Bits.sitofp .bf16 8 b
  have e : b.toInt = (n.toNat : Int) := by
    rw [h, BitVec.toInt_eq_toNat_of_lt (by omega)]
  show Bits.truncf32to16 (Bits.uitofp32 n) = Bits.truncf32to16 (Bits.sitofp32 b)
  unfold Bits.uitofp32 Bits.sitofp32
  rw [e]

/-- On extended reals: both conversions are exact. -/
theorem sameConvert_ideal : SameConvert Ideal := by
  intro n b h hb
  have e : b.toInt = (n.toNat : Int) := by
    rw [h, BitVec.toInt_eq_toNat_of_lt (by omega)]
  show (((n.toNat : ℝ) : EReal)) = ((b.toInt : ℝ) : EReal)
  rw [e]
  norm_cast

end Cert.Deq
-- ==== Proof.lean ====
module

public import proofs.«01_k».proof.Defs
public import proofs.«01_k».proof.Proof.Deq.KernelRun
public import proofs.«01_k».proof.Proof.Deq.MovedRun
public import proofs.«01_k».proof.Proof.Deq.MovedIdealRun
public import proofs.«01_k».proof.Proof.Deq.RefTerm
public import proofs.«01_k».proof.Proof.Gen.Kernel
public import proofs.«01_k».proof.Proof.Gen.Kernel.Frame
public import proofs.«01_k».proof.Proof.Gen.Reference
public import proofs.«01_k».proof.Proof.Gen.Reference.Run
public import proofs.«01_k».proof.Proof.Gen.Moved
public import proofs.«01_k».proof.Proof.Gen.Moved.Frame
public import proofs.«01_k».proof.Proof.Gen.MovedIdeal
public import proofs.«01_k».proof.Proof.Gen.MovedIdeal.Frame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The two shift amounts of the reference's literal are four times the half. -/
theorem lit_eq : ∀ h : Fin 2, Cert.Reference.lit0 h = BitVec.ofNat 8 (4 * h.val) := by decide
/-- The same of the literal in the ideal program. -/
theorem lit_eq_ideal : ∀ h : Fin 2, Cert.ReferenceIdeal.lit0 h = BitVec.ofNat 8 (4 * h.val) := by decide

/-- The reference on bit patterns terminates, leaves its arguments and, having no semaphore, leaves every counter at zero. -/
theorem frame_reference : Cert.quiescent_Reference (hReference := Cert.Reference.Gen.facts) := fun m g _ =>
  (θ_run _ _ _).mono (fun r h => ⟨fun c => (h c).2, sem_eq_zero_of_no_sems rfl r.2⟩) (Cert.Reference.Value.run (F := Bits) m g)

/-- The same of the reference over the extended reals. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- On bit patterns the kernel and the reference, started with equal arguments, end with the same words in their results. -/
theorem bitexact : Cert.bitexact_Kernel_Reference (hKernel := Cert.Kernel.Gen.facts) (hReference := Cert.Reference.Gen.facts) := by
  intro m g m' g' _ hm
  refine ⟨_, Cert.Deq.Kernel.run m g, (θ_run _ _ _).mono (fun r h c => ⟨(h c).1.trans ?_, (h c).2⟩)
    (Cert.Reference.Value.run (F := Bits) m' g')⟩
  rw [(hm c).1, (hm c).2.1, (hm c).2.2]
  exact Cert.Deq.ref_eq Cert.Deq.sameConvert_bits _ _ _ _ lit_eq _ _ _ _ _ _ _ _ _ _

/-- On bit patterns the kernel and the kernel with its row broadcast restated, started with equal arguments, end with the same words in
    their results. -/
theorem bitexact_moved : Cert.bitexact_Kernel_Moved (hKernel := Cert.Kernel.Gen.facts) (hMoved := Cert.Moved.Gen.facts) := by
  intro m g m' g' _ hm
  refine ⟨_, Cert.Deq.Kernel.run m g, (θ_run _ _ _).mono (fun r h c => ⟨(h c).1.trans ?_, (h c).2⟩) (Cert.Deq.Moved.run m' g')⟩
  unfold Cert.Deq.Moved.wholeOf Cert.Deq.Kernel.wholeOf
  rw [(hm c).1, (hm c).2.1, (hm c).2.2]

/-- Over the extended reals the restated kernel and the reference, started with equal arguments, end with the same values in their results. -/
theorem algebraic : Cert.algebraic_MovedIdeal_ReferenceIdeal (hMovedIdeal := Cert.MovedIdeal.Gen.facts)
    (hReferenceIdeal := Cert.ReferenceIdeal.Gen.facts) := by
  intro m g m' g' _ hm
  refine ⟨_, Cert.Deq.MovedIdeal.run m g, (θ_run _ _ _).mono (fun r h c => ⟨(h c).1.trans ?_, (h c).2⟩)
    (Cert.ReferenceIdeal.Value.run (F := Ideal) m' g')⟩
  rw [(hm c).1, (hm c).2.1, (hm c).2.2]
  exact Cert.Deq.ref_eq Cert.Deq.sameConvert_ideal _ _ _ _ lit_eq_ideal _ _ _ _ _ _ _ _ _ _

/-- The ideal program is the printed one with pairs of bf16 rows read as rows of values instead of words. -/
theorem preserves : Cert.preserves_Moved_MovedIdeal :=
  ⟨IdealRules.bf16_pair.statement _ _, IdealRules.bf16_pair.statement _ _⟩

/-- Every claim of the certificate. -/
theorem claim : Cert.Claim := ⟨Cert.Kernel.Gen.facts, Cert.Reference.Gen.facts, Cert.Moved.Gen.facts, Cert.MovedIdeal.Gen.facts,
  Cert.ReferenceIdeal.Gen.facts, fun m g _ => Cert.Kernel.Gen.frame (F := Bits) m g, frame_reference,
  fun m g _ => Cert.Moved.Gen.frame (F := Bits) m g, fun m g _ => Cert.MovedIdeal.Gen.frame (F := Ideal) m g, frame_referenceIdeal,
  bitexact, bitexact_moved, preserves, algebraic⟩

end Cert.Proof

end
